-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rstd_is_finite [hPre_rstd_is_finite : Cert.Pre_rstd_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rstd_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rstd_is_finite [hPre_rstd_is_finite : Cert.Pre_rstd_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rstd_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_rstd_is_finite [hKernelIdeal : Cert.KernelIdeal.Facts] [hPre_rstd_is_finite : Cert.Pre_rstd_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rstd_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rstd_is_finite [hReferenceIdeal : Cert.ReferenceIdeal.Facts] [hPre_rstd_is_finite : Cert.Pre_rstd_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rstd_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_rstd_is_finite [hKernelIdeal : Cert.KernelIdeal.Facts] [hReferenceIdeal : Cert.ReferenceIdeal.Facts] [hPre_rstd_is_finite : Cert.Pre_rstd_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rstd_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v91_0) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v91_1) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_rstd_is_finite : Cert.Pre_rstd_is_finite.Facts),
    quiescent_Kernel (hKernel := hKernel)
    ∧ quiescent_KernelIdeal (hKernelIdeal := hKernelIdeal)
    ∧ quiescent_KernelIdeal_pre_rstd_is_finite (hKernelIdeal := hKernelIdeal) (hPre_rstd_is_finite := hPre_rstd_is_finite)
    ∧ quiescent_ReferenceIdeal (hReferenceIdeal := hReferenceIdeal)
    ∧ quiescent_ReferenceIdeal_pre_rstd_is_finite (hReferenceIdeal := hReferenceIdeal) (hPre_rstd_is_finite := hPre_rstd_is_finite)
    ∧ preserves_Kernel_KernelIdeal
    ∧ algebraic_KernelIdeal_ReferenceIdeal_pre_rstd_is_finite (hKernelIdeal := hKernelIdeal) (hReferenceIdeal := hReferenceIdeal) (hPre_rstd_is_finite := hPre_rstd_is_finite)
-- ==== Pre_rstd_is_finite.lean ====
abbrev S2x1024x7168 : Shape := ⟨3, ![2, 1024, 7168]⟩
abbrev S2x1024 : Shape := ⟨2, ![2, 1024]⟩
abbrev S7168 : Shape := ⟨1, ![7168]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S2x1024x7168 .bf16) (main_arg1 : FVec F S2x1024 .f32) (main_arg2 : FVec F S7168 .f32) (main_arg3 : FVec F S2x1024x7168 .bf16) (main_arg4 : FVec F S2x1024x7168 .bf16) (main_arg5 : FVec F S2x1024x7168 .bf16) (main_arg6 : FVec F S2x1024x7168 .bf16) : IVec S_ 1 :=
  let main_cst : FVec F S_ .f32 := constant S_ .f32 0x00000000#32
  let main_v0 : FVec F S2x1024 .f32 := broadcastInDim S2x1024 ![] bcast_S_S2x1024 main_cst
  let main_v1 : IVec S2x1024 1 := cmpf .oge main_arg1 main_v0
  let main_cst_0 : FVec F S_ .f32 := constant S_ .f32 0x7F800000#32
  let main_v2 : FVec F S2x1024 .f32 := broadcastInDim S2x1024 ![] bcast_S_S2x1024 main_cst_0
  let main_v3 : IVec S2x1024 1 := cmpf .olt main_arg1 main_v2
  let main_v4 : IVec S2x1024 1 := andi main_v1 main_v3
  let main_c : IVec S_ 1 := constantI S_ 1 1#1
  let main_v5 : IVec S_ 1 := (fun x v => Host.reduce IntOp.andi x v reducesTo_S2x1024_S_d0_1 h_S_) main_v4 main_c
  main_v5
-- ==== Kernel.lean ====
abbrev S2x1024x7168 : Shape := ⟨3, ![2, 1024, 7168]⟩
abbrev S2x1024 : Shape := ⟨2, ![2, 1024]⟩
abbrev S7168 : Shape := ⟨1, ![7168]⟩
abbrev S1x7168 : Shape := ⟨2, ![1, 7168]⟩
abbrev S2x8x7168 : Shape := ⟨3, ![2, 8, 7168]⟩
abbrev S2x1024x56 : Shape := ⟨3, ![2, 1024, 56]⟩
abbrev S1x128x7168 : Shape := ⟨3, ![1, 128, 7168]⟩
abbrev S1x8x7168 : Shape := ⟨3, ![1, 8, 7168]⟩
abbrev S1x128x56 : Shape := ⟨3, ![1, 128, 56]⟩
abbrev S128x7168 : Shape := ⟨2, ![128, 7168]⟩
abbrev S128x128 : Shape := ⟨2, ![128, 128]⟩
abbrev S2x128 : Shape := ⟨2, ![2, 128]⟩
abbrev S128 : Shape := ⟨1, ![128]⟩
abbrev S1x128 : Shape := ⟨2, ![1, 128]⟩
abbrev S8x128 : Shape := ⟨2, ![8, 128]⟩
abbrev S1x128x128 : Shape := ⟨3, ![1, 128, 128]⟩
abbrev S1x8x128 : Shape := ⟨3, ![1, 8, 128]⟩
abbrev S128x1 : Shape := ⟨2, ![128, 1]⟩
abbrev S128x56 : Shape := ⟨2, ![128, 56]⟩
abbrev S128x1024 : Shape := ⟨2, ![128, 1024]⟩
abbrev S1x128x1024 : Shape := ⟨3, ![1, 128, 1024]⟩

abbrev nBuf : Space → Nat
  | .hbm => 15
  | .vmem => 29
  | .smem => 0
  | _ => 0

abbrev bufTy : (tb : Table) → Fin (tcTables nBuf tb) → BufTy
  | .hbm, ⟨0, _⟩ => ⟨S2x1024x7168, .bf16⟩
  | .hbm, ⟨1, _⟩ => ⟨S2x1024, .f32⟩
  | .hbm, ⟨2, _⟩ => ⟨S7168, .f32⟩
  | .hbm, ⟨3, _⟩ => ⟨S2x1024x7168, .bf16⟩
  | .hbm, ⟨4, _⟩ => ⟨S2x1024x7168, .bf16⟩
  | .hbm, ⟨5, _⟩ => ⟨S2x1024x7168, .bf16⟩
  | .hbm, ⟨6, _⟩ => ⟨S2x1024x7168, .bf16⟩
  | .hbm, ⟨7, _⟩ => ⟨S1x7168, .f32⟩
  | .hbm, ⟨8, _⟩ => ⟨S2x1024x7168, .bf16⟩
  | .hbm, ⟨9, _⟩ => ⟨S1x7168, .f32⟩
  | .hbm, ⟨10, _⟩ => ⟨S2x8x7168, .f32⟩
  | .hbm, ⟨11, _⟩ => ⟨S2x1024x7168, .fp8e4m3⟩
  | .hbm, ⟨12, _⟩ => ⟨S2x1024x56, .f32⟩
  | .hbm, ⟨13, _⟩ => ⟨S2x1024x7168, .fp8e4m3⟩
  | .hbm, ⟨14, _⟩ => ⟨S2x8x7168, .f32⟩
  | .local _ .vmem, ⟨0, _⟩ => ⟨S1x128x7168, .bf16⟩
  | .local _ .vmem, ⟨1, _⟩ => ⟨S1x128x7168, .bf16⟩
  | .local _ .vmem, ⟨2, _⟩ => ⟨S2x1024, .f32⟩
  | .local _ .vmem, ⟨3, _⟩ => ⟨S1x7168, .f32⟩
  | .local _ .vmem, ⟨4, _⟩ => ⟨S1x128x7168, .bf16⟩
  | .local _ .vmem, ⟨5, _⟩ => ⟨S1x128x7168, .bf16⟩
  | .local _ .vmem, ⟨6, _⟩ => ⟨S1x128x7168, .bf16⟩
  | .local _ .vmem, ⟨7, _⟩ => ⟨S1x128x7168, .bf16⟩
  | .local _ .vmem, ⟨8, _⟩ => ⟨S1x128x7168, .bf16⟩
  | .local _ .vmem, ⟨9, _⟩ => ⟨S1x128x7168, .bf16⟩
  | .local _ .vmem, ⟨10, _⟩ => ⟨S1x128x7168, .bf16⟩
  | .local _ .vmem, ⟨11, _⟩ => ⟨S1x128x7168, .bf16⟩
  | .local _ .vmem, ⟨12, _⟩ => ⟨S1x128x7168, .bf16⟩
  | .local _ .vmem, ⟨13, _⟩ => ⟨S1x128x7168, .bf16⟩
  | .local _ .vmem, ⟨14, _⟩ => ⟨S1x7168, .f32⟩
  | .local _ .vmem, ⟨15, _⟩ => ⟨S1x8x7168, .f32⟩
  | .local _ .vmem, ⟨16, _⟩ => ⟨S1x8x7168, .f32⟩
  | .local _ .vmem, ⟨17, _⟩ => ⟨S1x128x7168, .fp8e4m3⟩
  | .local _ .vmem, ⟨18, _⟩ => ⟨S1x128x7168, .fp8e4m3⟩
  | .local _ .vmem, ⟨19, _⟩ => ⟨S1x128x56, .f32⟩
  | .local _ .vmem, ⟨20, _⟩ => ⟨S1x128x56, .f32⟩
  | .local _ .vmem, ⟨21, _⟩ => ⟨S1x128x7168, .fp8e4m3⟩
  | .local _ .vmem, ⟨22, _⟩ => ⟨S1x128x7168, .fp8e4m3⟩
  | .local _ .vmem, ⟨23, _⟩ => ⟨S1x8x7168, .f32⟩
  | .local _ .vmem, ⟨24, _⟩ => ⟨S1x8x7168, .f32⟩
  | .local _ .vmem, ⟨25, _⟩ => ⟨S128x7168, .f32⟩
  | .local _ .vmem, ⟨26, _⟩ => ⟨S128x128, .f32⟩
  | .local _ .vmem, ⟨27, _⟩ => ⟨S128x128, .f32⟩
  | .local _ .vmem, ⟨28, _⟩ => ⟨S128x7168, .bf16⟩
  | _, _ => ⟨S2x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c128_i32 : BitVec 32 := 128#32
  let v5 : BitVec 32 := Scalar.muli arg1 c128_i32
  v5
def k0_off1 (i : grid0.Coords) : Fin 2 → Nat :=
  let c0 : Index := 0#32
  let arg1 : BitVec 32 := BitVec.ofNat 32 (i 1).val
  let c128_i32 : BitVec 32 := 128#32
  let v5 : BitVec 32 := Scalar.muli arg1 c128_i32
  let v6 : BitVec 32 := v5
  let v7 : Index := Scalar.indexCast v6
  ![0, v7.toNat]
@[reducible] def k0_t1_loop : Scf.Loop 32 :=
  let c0_i32_6 : BitVec 32 := 0#32
  let c14_i32 : BitVec 32 := 14#32
  let v26 : BitVec 32 := Scalar.addi c0_i32_6 c14_i32
  let c1_i32 : BitVec 32 := 1#32
  ⟨c0_i32_6, v26, c1_i32⟩
def k0_mult2 (k0_t1 : Fin k0_t1_loop.trips) : BitVec 32 :=
  let c0_i32_6 : BitVec 32 := 0#32
  let c1_i32 : BitVec 32 := 1#32
  let arg20 : BitVec 32 := Scf.iv c0_i32_6 c1_i32 k0_t1
  let c4_i32_58 : BitVec 32 := 4#32
  let v160 : BitVec 32 := Scalar.muli arg20 c4_i32_58
  let c0_i32_59 : BitVec 32 := 0#32
  let v161 : BitVec 32 := Scalar.addi v160 c0_i32_59
  let c128_i32_60 : BitVec 32 := 128#32
  let v162 : BitVec 32 := Scalar.muli v161 c128_i32_60
  v162
def k0_off2 (k0_t1 : Fin k0_t1_loop.trips) (c0_i32_59 : BitVec 32) : Fin 3 → Nat :=
  let c0_61 : Index := 0#32
  let c0_62 : Index := 0#32
  let c0_i32_6 : BitVec 32 := 0#32
  let c1_i32 : BitVec 32 := 1#32
  let arg20 : BitVec 32 := Scf.iv c0_i32_6 c1_i32 k0_t1
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v164 : Index := Scalar.indexCast v163
  ![0, 0, v164.toNat]
def k0_off3 (k0_t1 : Fin k0_t1_loop.trips) (c0_i32_59 : BitVec 32) : Fin 2 → Nat :=
  let c0_69 : Index := 0#32
  let c0_i32_6 : BitVec 32 := 0#32
  let c1_i32 : BitVec 32 := 1#32
  let arg20 : BitVec 32 := Scf.iv c0_i32_6 c1_i32 k0_t1
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v180 : Index := Scalar.indexCast v163
  ![0, v180.toNat]
def k0_off4 (k0_t1 : Fin k0_t1_loop.trips) (c0_i32_59 : BitVec 32) : Fin 3 → Nat :=
  let c0_73 : Index := 0#32
  let c0_74 : Index := 0#32
  let c0_i32_6 : BitVec 32 := 0#32
  let c1_i32 : BitVec 32 := 1#32
  let arg20 : BitVec 32 := Scf.iv c0_i32_6 c1_i32 k0_t1
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v193 : Index := Scalar.indexCast v163
  ![0, 0, v193.toNat]
def k0_off5 (k0_t1 : Fin k0_t1_loop.trips) (c0_i32_59 : BitVec 32) : Fin 2 → Nat :=
  let c0_75 : Index := 0#32
  let c0_i32_6 : BitVec 32 := 0#32
  let c1_i32 : BitVec 32 := 1#32
  let arg20 : BitVec 32 := Scf.iv c0_i32_6 c1_i32 k0_t1
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v198 : Index := Scalar.indexCast v163
  ![0, v198.toNat]
def k0_mult3 (k0_t1 : Fin k0_t1_loop.trips) : BitVec 32 :=
  let c0_i32_6 : BitVec 32 := 0#32
  let c1_i32 : BitVec 32 := 1#32
  let arg20 : BitVec 32 := Scf.iv c0_i32_6 c1_i32 k0_t1
  let c4_i32_78 : BitVec 32 := 4#32
  let v210 : BitVec 32 := Scalar.muli arg20 c4_i32_78
  let c1_i32_79 : BitVec 32 := 1#32
  let v211 : BitVec 32 := Scalar.addi v210 c1_i32_79
  let c128_i32_80 : BitVec 32 := 128#32
  let v212 : BitVec 32 := Scalar.muli v211 c128_i32_80
  v212
def k0_mult4 (k0_t1 : Fin k0_t1_loop.trips) : BitVec 32 :=
  let c0_i32_6 : BitVec 32 := 0#32
  let c1_i32 : BitVec 32 := 1#32
  let arg20 : BitVec 32 := Scf.iv c0_i32_6 c1_i32 k0_t1
  let c4_i32_98 : BitVec 32 := 4#32
  let v260 : BitVec 32 := Scalar.muli arg20 c4_i32_98
  let c2_i32_99 : BitVec 32 := 2#32
  let v261 : BitVec 32 := Scalar.addi v260 c2_i32_99
  let c128_i32_100 : BitVec 32 := 128#32
  let v262 : BitVec 32 := Scalar.muli v261 c128_i32_100
  v262
def k0_mult5 (k0_t1 : Fin k0_t1_loop.trips) : BitVec 32 :=
  let c0_i32_6 : BitVec 32 := 0#32
  let c1_i32 : BitVec 32 := 1#32
  let arg20 : BitVec 32 := Scf.iv c0_i32_6 c1_i32 k0_t1
  let c4_i32_118 : BitVec 32 := 4#32
  let v310 : BitVec 32 := Scalar.muli arg20 c4_i32_118
  let c3_i32 : BitVec 32 := 3#32
  let v311 : BitVec 32 := Scalar.addi v310 c3_i32
  let c128_i32_119 : BitVec 32 := 128#32
  let v312 : BitVec 32 := Scalar.muli v311 c128_i32_119
  v312
@[reducible] def k0_t2_loop : Scf.Loop 32 :=
  let c0_i32_14 : BitVec 32 := 0#32
  let c14_i32_15 : BitVec 32 := 14#32
  let v40 : BitVec 32 := Scalar.addi c0_i32_14 c14_i32_15
  let c1_i32_16 : BitVec 32 := 1#32
  ⟨c0_i32_14, v40, c1_i32_16⟩
def k0_mult6 (k0_t2 : Fin k0_t2_loop.trips) : BitVec 32 :=
  let c0_i32_14 : BitVec 32 := 0#32
  let c1_i32_16 : BitVec 32 := 1#32
  let arg20 : BitVec 32 := Scf.iv c0_i32_14 c1_i32_16 k0_t2
  let c4_i32_58 : BitVec 32 := 4#32
  let v160 : BitVec 32 := Scalar.muli arg20 c4_i32_58
  let c0_i32_59 : BitVec 32 := 0#32
  let v161 : BitVec 32 := Scalar.addi v160 c0_i32_59
  let c128_i32_60 : BitVec 32 := 128#32
  let v162 : BitVec 32 := Scalar.muli v161 c128_i32_60
  v162
def k0_off6 (k0_t2 : Fin k0_t2_loop.trips) (c0_i32_59 : BitVec 32) : Fin 2 → Nat :=
  let c0_61 : Index := 0#32
  let c0_i32_14 : BitVec 32 := 0#32
  let c1_i32_16 : BitVec 32 := 1#32
  let arg20 : BitVec 32 := Scf.iv c0_i32_14 c1_i32_16 k0_t2
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v164 : Index := Scalar.indexCast v163
  ![0, v164.toNat]
def k0_off7 (k0_t2 : Fin k0_t2_loop.trips) (c0_i32_59 : BitVec 32) : Fin 2 → Nat :=
  let c0_62 : Index := 0#32
  let c0_i32_14 : BitVec 32 := 0#32
  let c1_i32_16 : BitVec 32 := 1#32
  let arg20 : BitVec 32 := Scf.iv c0_i32_14 c1_i32_16 k0_t2
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v166 : Index := Scalar.indexCast v163
  ![0, v166.toNat]
def k0_off8 (k0_t2 : Fin k0_t2_loop.trips) (c0_i32_59 : BitVec 32) : Fin 3 → Nat :=
  let c0_63 : Index := 0#32
  let c0_64 : Index := 0#32
  let c0_i32_14 : BitVec 32 := 0#32
  let c1_i32_16 : BitVec 32 := 1#32
  let arg20 : BitVec 32 := Scf.iv c0_i32_14 c1_i32_16 k0_t2
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v171 : Index := Scalar.indexCast v163
  ![0, 0, v171.toNat]
def k0_off9 (k0_t2 : Fin k0_t2_loop.trips) (c0_i32_59 : BitVec 32) : Fin 3 → Nat :=
  let c0_113 : Index := 0#32
  let c0_114 : Index := 0#32
  let c0_i32_14 : BitVec 32 := 0#32
  let c1_i32_16 : BitVec 32 := 1#32
  let arg20 : BitVec 32 := Scf.iv c0_i32_14 c1_i32_16 k0_t2
  let c4_i32_58 : BitVec 32 := 4#32
  let v160 : BitVec 32 := Scalar.muli arg20 c4_i32_58
  let v161 : BitVec 32 := Scalar.addi v160 c0_i32_59
  let c128_i32_60 : BitVec 32 := 128#32
  let v162 : BitVec 32 := Scalar.muli v161 c128_i32_60
  let v163 : BitVec 32 := v162
  let v302 : Index := Scalar.indexCast v163
  ![0, 0, v302.toNat]
def k0_mult7 (k0_t2 : Fin k0_t2_loop.trips) : BitVec 32 :=
  let c0_i32_14 : BitVec 32 := 0#32
  let c1_i32_16 : BitVec 32 := 1#32
  let arg20 : BitVec 32 := Scf.iv c0_i32_14 c1_i32_16 k0_t2
  let c4_i32_125 : BitVec 32 := 4#32
  let v335 : BitVec 32 := Scalar.muli arg20 c4_i32_125
  let c1_i32_126 : BitVec 32 := 1#32
  let v336 : BitVec 32 := Scalar.addi v335 c1_i32_126
  let c128_i32_127 : BitVec 32 := 128#32
  let v337 : BitVec 32 := Scalar.muli v336 c128_i32_127
  v337
def k0_mult8 (k0_t2 : Fin k0_t2_loop.trips) : BitVec 32 :=
  let c0_i32_14 : BitVec 32 := 0#32
  let c1_i32_16 : BitVec 32 := 1#32
  let arg20 : BitVec 32 := Scf.iv c0_i32_14 c1_i32_16 k0_t2
  let c4_i32_192 : BitVec 32 := 4#32
  let v510 : BitVec 32 := Scalar.muli arg20 c4_i32_192
  let c2_i32_193 : BitVec 32 := 2#32
  let v511 : BitVec 32 := Scalar.addi v510 c2_i32_193
  let c128_i32_194 : BitVec 32 := 128#32
  let v512 : BitVec 32 := Scalar.muli v511 c128_i32_194
  v512
def k0_mult9 (k0_t2 : Fin k0_t2_loop.trips) : BitVec 32 :=
  let c0_i32_14 : BitVec 32 := 0#32
  let c1_i32_16 : BitVec 32 := 1#32
  let arg20 : BitVec 32 := Scf.iv c0_i32_14 c1_i32_16 k0_t2
  let c4_i32_259 : BitVec 32 := 4#32
  let v685 : BitVec 32 := Scalar.muli arg20 c4_i32_259
  let c3_i32 : BitVec 32 := 3#32
  let v686 : BitVec 32 := Scalar.addi v685 c3_i32
  let c128_i32_260 : BitVec 32 := 128#32
  let v687 : BitVec 32 := Scalar.muli v686 c128_i32_260
  v687
@[reducible] def k0_t3_loop : Scf.Loop 32 :=
  let c0_i32_55 : BitVec 32 := 0#32
  let c7_i32 : BitVec 32 := 7#32
  let v159 : BitVec 32 := Scalar.addi c0_i32_55 c7_i32
  let c1_i32_56 : BitVec 32 := 1#32
  ⟨c0_i32_55, v159, c1_i32_56⟩
def k0_mult10 (k0_t3 : Fin k0_t3_loop.trips) : BitVec 32 :=
  let c0_i32_55 : BitVec 32 := 0#32
  let c1_i32_56 : BitVec 32 := 1#32
  let arg20 : BitVec 32 := Scf.iv c0_i32_55 c1_i32_56 k0_t3
  let c1024_i32 : BitVec 32 := 1024#32
  let v160 : BitVec 32 := Scalar.muli arg20 c1024_i32
  v160
def k0_off10 (k0_t3 : Fin k0_t3_loop.trips) : Fin 2 → Nat :=
  let c0_58 : Index := 0#32
  let c0_i32_55 : BitVec 32 := 0#32
  let c1_i32_56 : BitVec 32 := 1#32
  let arg20 : BitVec 32 := Scf.iv c0_i32_55 c1_i32_56 k0_t3
  let c1024_i32 : BitVec 32 := 1024#32
  let v160 : BitVec 32 := Scalar.muli arg20 c1024_i32
  let v161 : BitVec 32 := v160
  let v162 : Index := Scalar.indexCast v161
  ![0, v162.toNat]
def k0_off11 (k0_t3 : Fin k0_t3_loop.trips) : Fin 3 → Nat :=
  let c0_63 : Index := 0#32
  let c0_64 : Index := 0#32
  let c0_i32_55 : BitVec 32 := 0#32
  let c1_i32_56 : BitVec 32 := 1#32
  let arg20 : BitVec 32 := Scf.iv c0_i32_55 c1_i32_56 k0_t3
  let c1024_i32 : BitVec 32 := 1024#32
  let v160 : BitVec 32 := Scalar.muli arg20 c1024_i32
  let v161 : BitVec 32 := v160
  let v173 : Index := Scalar.indexCast v161
  ![0, 0, v173.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x7168 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x7168 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x56 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x7168 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x7168 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x1024x7168 : Shape := ⟨3, ![2, 1024, 7168]⟩
abbrev S2x1024 : Shape := ⟨2, ![2, 1024]⟩
abbrev S7168 : Shape := ⟨1, ![7168]⟩
abbrev S2x1024x1 : Shape := ⟨3, ![2, 1024, 1]⟩
abbrev S1x1x7168 : Shape := ⟨3, ![1, 1, 7168]⟩
abbrev S_ : Shape := ⟨0, ![]⟩
abbrev S2x8x128x7168 : Shape := ⟨4, ![2, 8, 128, 7168]⟩
abbrev S2x8x7168 : Shape := ⟨3, ![2, 8, 7168]⟩
abbrev S1x7168 : Shape := ⟨2, ![1, 7168]⟩
abbrev S2x1024x56x128 : Shape := ⟨4, ![2, 1024, 56, 128]⟩
abbrev S2x1024x56 : Shape := ⟨3, ![2, 1024, 56]⟩
abbrev S2x1024x56x1 : Shape := ⟨4, ![2, 1024, 56, 1]⟩
abbrev S2x8x1x7168 : Shape := ⟨4, ![2, 8, 1, 7168]⟩

abbrev nBuf : Space → Nat
  | .hbm => 143
  | .vmem => 4
  | .smem => 0
  | _ => 0

abbrev hbmTy0_0 (i : Nat) : BufTy := match i % 128 with
  | 0 => ⟨S2x1024x7168, .bf16⟩
  | 1 => ⟨S2x1024, .f32⟩
  | 2 => ⟨S7168, .f32⟩
  | 3 => ⟨S2x1024x7168, .bf16⟩
  | 4 => ⟨S2x1024x7168, .bf16⟩
  | 5 => ⟨S2x1024x7168, .bf16⟩
  | 6 => ⟨S2x1024x7168, .bf16⟩
  | 7 => ⟨S2x1024x1, .f32⟩
  | 8 => ⟨S2x1024x7168, .f32⟩
  | 9 => ⟨S2x1024x7168, .f32⟩
  | 10 => ⟨S2x1024x7168, .f32⟩
  | 11 => ⟨S2x1024x7168, .f32⟩
  | 12 => ⟨S2x1024x7168, .f32⟩
  | 13 => ⟨S2x1024x7168, .f32⟩
  | 14 => ⟨S2x1024x7168, .f32⟩
  | 15 => ⟨S2x1024x7168, .f32⟩
  | 16 => ⟨S1x1x7168, .f32⟩
  | 17 => ⟨S2x1024x7168, .f32⟩
  | 18 => ⟨S2x1024x7168, .f32⟩
  | 19 => ⟨S2x1024x7168, .f32⟩
  | 20 => ⟨S_, .f32⟩
  | 21 => ⟨S2x1024, .f32⟩
  | 22 => ⟨S2x1024x1, .f32⟩
  | 23 => ⟨S_, .f32⟩
  | 24 => ⟨S2x1024x1, .f32⟩
  | 25 => ⟨S2x1024x1, .f32⟩
  | 26 => ⟨S2x1024x7168, .f32⟩
  | 27 => ⟨S2x1024x7168, .f32⟩
  | 28 => ⟨S2x1024x7168, .f32⟩
  | 29 => ⟨S2x1024x7168, .f32⟩
  | 30 => ⟨S2x1024x7168, .f32⟩
  | 31 => ⟨S2x1024x7168, .f32⟩
  | 32 => ⟨S2x8x128x7168, .f32⟩
  | 33 => ⟨S_, .f32⟩
  | 34 => ⟨S2x8x7168, .f32⟩
  | 35 => ⟨S2x1024x7168, .f32⟩
  | 36 => ⟨S2x1024x7168, .f32⟩
  | 37 => ⟨S_, .f32⟩
  | 38 => ⟨S7168, .f32⟩
  | 39 => ⟨S1x7168, .f32⟩
  | 40 => ⟨S2x1024x56x128, .f32⟩
  | 41 => ⟨S2x1024x56x128, .f32⟩
  | 42 => ⟨S_, .f32⟩
  | 43 => ⟨S2x1024x56, .f32⟩
  | 44 => ⟨S_, .f32⟩
  | 45 => ⟨S2x1024x56, .f32⟩
  | 46 => ⟨S2x1024x56, .f32⟩
  | 47 => ⟨S2x1024x56, .f32⟩
  | 48 => ⟨S_, .f32⟩
  | 49 => ⟨S_, .f32⟩
  | 50 => ⟨S_, .f32⟩
  | 51 => ⟨S2x1024x56, .f32⟩
  | 52 => ⟨S2x1024x56, .f32⟩
  | 53 => ⟨S2x1024x56, .f32⟩
  | 54 => ⟨S_, .f32⟩
  | 55 => ⟨S2x1024x56, .f32⟩
  | 56 => ⟨S2x1024x56, .f32⟩
  | 57 => ⟨S_, .f32⟩
  | 58 => ⟨S2x1024x56, .f32⟩
  | 59 => ⟨S2x1024x56, .f32⟩
  | 60 => ⟨S_, .f32⟩
  | 61 => ⟨S2x1024x56, .f32⟩
  | 62 => ⟨S2x1024x56, .i1⟩
  | 63 => ⟨S_, .f32⟩
  | 64 => ⟨S2x1024x56, .f32⟩
  | 65 => ⟨S2x1024x56, .i1⟩
  | 66 => ⟨S2x1024x56, .i1⟩
  | 67 => ⟨S_, .f32⟩
  | 68 => ⟨S_, .f32⟩
  | 69 => ⟨S2x1024x56, .f32⟩
  | 70 => ⟨S2x1024x56, .f32⟩
  | 71 => ⟨S_, .f32⟩
  | 72 => ⟨S2x1024x56, .f32⟩
  | 73 => ⟨S2x1024x56, .f32⟩
  | 74 => ⟨S2x1024x56, .f32⟩
  | 75 => ⟨S_, .f32⟩
  | 76 => ⟨S2x1024x56, .f32⟩
  | 77 => ⟨S2x1024x56, .f32⟩
  | 78 => ⟨S2x1024x56x1, .f32⟩
  | 79 => ⟨S2x1024x56x128, .f32⟩
  | 80 => ⟨S2x1024x56x128, .f32⟩
  | 81 => ⟨S_, .f32⟩
  | 82 => ⟨S_, .f32⟩
  | 83 => ⟨S_, .f32⟩
  | 84 => ⟨S2x1024x56x128, .f32⟩
  | 85 => ⟨S2x1024x56x128, .f32⟩
  | 86 => ⟨S_, .f32⟩
  | 87 => ⟨S2x1024x56x128, .f32⟩
  | 88 => ⟨S2x1024x56x128, .f32⟩
  | 89 => ⟨S2x1024x7168, .f32⟩
  | 90 => ⟨S2x8x128x7168, .f32⟩
  | 91 => ⟨S2x8x128x7168, .f32⟩
  | 92 => ⟨S_, .f32⟩
  | 93 => ⟨S2x8x7168, .f32⟩
  | 94 => ⟨S_, .f32⟩
  | 95 => ⟨S2x8x7168, .f32⟩
  | 96 => ⟨S2x8x7168, .f32⟩
  | 97 => ⟨S2x8x7168, .f32⟩
  | 98 => ⟨S_, .f32⟩
  | 99 => ⟨S_, .f32⟩
  | 100 => ⟨S_, .f32⟩
  | 101 => ⟨S2x8x7168, .f32⟩
  | 102 => ⟨S2x8x7168, .f32⟩
  | 103 => ⟨S2x8x7168, .f32⟩
  | 104 => ⟨S_, .f32⟩
  | 105 => ⟨S2x8x7168, .f32⟩
  | 106 => ⟨S2x8x7168, .f32⟩
  | 107 => ⟨S_, .f32⟩
  | 108 => ⟨S2x8x7168, .f32⟩
  | 109 => ⟨S2x8x7168, .f32⟩
  | 110 => ⟨S_, .f32⟩
  | 111 => ⟨S2x8x7168, .f32⟩
  | 112 => ⟨S2x8x7168, .i1⟩
  | 113 => ⟨S_, .f32⟩
  | 114 => ⟨S2x8x7168, .f32⟩
  | 115 => ⟨S2x8x7168, .i1⟩
  | 116 => ⟨S2x8x7168, .i1⟩
  | 117 => ⟨S_, .f32⟩
  | 118 => ⟨S_, .f32⟩
  | 119 => ⟨S2x8x7168, .f32⟩
  | 120 => ⟨S2x8x7168, .f32⟩
  | 121 => ⟨S_, .f32⟩
  | 122 => ⟨S2x8x7168, .f32⟩
  | 123 => ⟨S2x8x7168, .f32⟩
  | 124 => ⟨S2x8x7168, .f32⟩
  | 125 => ⟨S_, .f32⟩
  | 126 => ⟨S2x8x7168, .f32⟩
  | 127 => ⟨S2x8x7168, .f32⟩
  | _ => ⟨S2x1024x7168, .bf16⟩

abbrev hbmTy0_1 (i : Nat) : BufTy := match i % 128 with
  | 0 => ⟨S2x8x1x7168, .f32⟩
  | 1 => ⟨S2x8x128x7168, .f32⟩
  | 2 => ⟨S2x8x128x7168, .f32⟩
  | 3 => ⟨S_, .f32⟩
  | 4 => ⟨S_, .f32⟩
  | 5 => ⟨S_, .f32⟩
  | 6 => ⟨S2x8x128x7168, .f32⟩
  | 7 => ⟨S2x8x128x7168, .f32⟩
  | 8 => ⟨S_, .f32⟩
  | 9 => ⟨S2x8x128x7168, .f32⟩
  | 10 => ⟨S2x8x128x7168, .f32⟩
  | 11 => ⟨S2x1024x7168, .f32⟩
  | 12 => ⟨S2x1024x7168, .fp8e4m3⟩
  | 13 => ⟨S2x1024x7168, .fp8e4m3⟩
  | 14 => ⟨S2x1024x7168, .bf16⟩
  | _ => ⟨S2x1024x7168, .bf16⟩

abbrev hbmTy (i : Nat) : BufTy := match i / 128 with
  | 0 => hbmTy0_0 i
  | 1 => hbmTy0_1 i
  | _ => ⟨S2x1024x7168, .bf16⟩

abbrev bufTy : (tb : Table) → Fin (tcTables nBuf tb) → BufTy
  | .hbm, ⟨i, _⟩ => hbmTy i
  | .local _ .vmem, ⟨0, _⟩ => ⟨S2x1024x7168, .f32⟩
  | .local _ .vmem, ⟨1, _⟩ => ⟨S2x1024x7168, .f32⟩
  | .local _ .vmem, ⟨2, _⟩ => ⟨S2x1024x7168, .fp8e4m3⟩
  | .local _ .vmem, ⟨3, _⟩ => ⟨S2x1024x7168, .fp8e4m3⟩
  | _, _ => ⟨S2x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_cst_14 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_cst_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_cst_20 : Ref sig .tc := ⟨.hbm, 110, rfl⟩
abbrev main_v75 : Ref sig .tc := ⟨.hbm, 111, rfl⟩
abbrev main_v76 : Ref sig .tc := ⟨.hbm, 112, rfl⟩
abbrev main_cst_21 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_22 : Ref sig .tc := ⟨.hbm, 117, rfl⟩
abbrev main_call2_v0 : Ref sig .tc := ⟨.hbm, 118, rfl⟩
abbrev main_call2_v1 : Ref sig .tc := ⟨.hbm, 119, rfl⟩
abbrev main_v80 : Ref sig .tc := ⟨.hbm, 120, rfl⟩
abbrev main_cst_23 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_24 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_25 : Ref sig .tc := ⟨.hbm, 131, rfl⟩
abbrev main_cst_26 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v89 : Ref sig .tc := ⟨.hbm, 138, rfl⟩
abbrev main_v90 : Ref sig .tc := ⟨.hbm, 139, rfl⟩
abbrev main_v91_0 : Ref sig .tc := ⟨.hbm, 140, rfl⟩
abbrev main_v91_1 : Ref sig .tc := ⟨.hbm, 141, rfl⟩
abbrev main_v92 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1024x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelTrips.lean ====
/- Hand-written: the two loops of the kernel over blocks of columns, gone through once per trip at a symbolic trip. -/
module

public import proofs.«01_k».proof.Proof.Gen.Kernel.Loops
public import proofs.«01_k».proof.Proof.Gen.Kernel.Frame
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What one trip of the loop holds: the operands it reads at their contents, those it writes at any. -/
abbrev Held_t1 (c : Dev nD) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt F) arg2.view.ty) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) : sProp 𝕄 :=
  iprop((arg2.view.loc (c : Thread nD τ) ↦[arg2.view.set]{fullShare} X_arg2) ∗ (arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg17.view.loc (c : Thread nD τ) ↦[arg17.view.set]{fullShare} X_arg17) ∗ (∃ f, (arg10.view.loc (c : Thread nD τ) ↦[arg10.view.set]{fullShare} f)) ∗ (∃ f, (arg11.view.loc (c : Thread nD τ) ↦[arg11.view.set]{fullShare} f)) ∗ (∃ f, (arg16.view.loc (c : Thread nD τ) ↦[arg16.view.set]{fullShare} f)))

/-- One trip of the loop runs and gives back what it was given. -/
theorem trip_t1 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole)  (X_arg2 : BufTy.Contents (Elt F) arg2.view.ty) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) (k : Fin k0_t1_loop.trips) (acc : FVec F S128x128 .f32) (E : Set ℕ) :
    Held_t1 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X_arg17
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k acc)
        (fun _ => Held_t1 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X_arg17) := by
  have hk : k.val < 14 := Nat.lt_of_lt_of_le k.isLt k0_t1_abs.2.1
  unfold k0_t1_body
  iintro ⟨HR_arg2, HR_arg4, HR_arg6, HR_arg7, HR_arg8, HR_arg17, ⟨%f_arg10, HW_arg10⟩, ⟨%f_arg11, HW_arg11⟩, ⟨%f_arg16, HW_arg16⟩⟩
  sl_exec_parts
  sl_step
  isplitl [HR_arg2]; · iexact HR_arg2
  isplitl [HR_arg4]; · iexact HR_arg4
  isplitl [HR_arg6]; · iexact HR_arg6
  isplitl [HR_arg7]; · iexact HR_arg7
  isplitl [HR_arg8]; · iexact HR_arg8
  isplitl [HR_arg17]; · iexact HR_arg17
  isplitl [HW_arg10]; · iexists _; iexact HW_arg10
  isplitl [HW_arg11]; · iexists _; iexact HW_arg11
  iexists _; iexact HW_arg16

set_option warn.classDefReducibility false in
/-- The loop goes through with its operands held as one trip holds them. -/
@[sl_loop] def loopInv_t1 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole)  (init : FVec F S128x128 .f32) (X_arg2 : BufTy.Contents (Elt F) arg2.view.ty) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  init where
  inv := fun _ _ => Held_t1 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X_arg17
  step := fun k acc => trip_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  X_arg2 X_arg4 X_arg6 X_arg7 X_arg8 X_arg17 k acc Set.univ

/-- What one trip of the loop holds: the operands it reads at their contents, those it writes at any. -/
abbrev Held_t2 (c : Dev nD) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt F) arg2.view.ty) (X_arg4 : BufTy.Contents (Elt F) arg4.view.ty) (X_arg5 : BufTy.Contents (Elt F) arg5.view.ty) (X_arg17 : BufTy.Contents (Elt F) arg17.view.ty) : sProp 𝕄 :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg17.view.loc (c : Thread nD τ) ↦[arg17.view.set]{fullShare} X_arg17) ∗ (∃ f, (arg9.view.loc (c : Thread nD τ) ↦[arg9.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg18.view.loc (c : Thread nD τ) ↦[arg18.view.set]{fullShare} f)))

/-- One trip of the loop runs and gives back what it was given. -/
theorem trip_t2 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (v24 : IVec S8x128 1) (v35 : FVec F S128x128 .f32) (v39 : IVec S128x128 32) (X_arg2 : BufTy.Contents (Elt F) arg2.view.ty) (X_arg4 : BufTy.Contents (Elt F) arg4.view.ty) (X_arg5 : BufTy.Contents (Elt F) arg5.view.ty) (X_arg17 : BufTy.Contents (Elt F) arg17.view.ty) (k : Fin k0_t2_loop.trips)  (E : Set ℕ) :
    Held_t2 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 X_arg17
    ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v24 v35 v39 k PUnit.unit)
        (fun _ => Held_t2 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 X_arg17) := by
  have hk : k.val < 14 := Nat.lt_of_lt_of_le k.isLt k0_t2_abs.2.1
  unfold k0_t2_body
  iintro ⟨HR_arg2, HR_arg4, HR_arg5, HR_arg17, ⟨%f_arg9, HW_arg9⟩, ⟨%f_arg14, HW_arg14⟩, ⟨%f_arg15, HW_arg15⟩, ⟨%f_arg16, HW_arg16⟩, ⟨%f_arg18, HW_arg18⟩⟩
  sl_exec_parts
  sl_step
  isplitl [HR_arg2]; · iexact HR_arg2
  isplitl [HR_arg4]; · iexact HR_arg4
  isplitl [HR_arg5]; · iexact HR_arg5
  isplitl [HR_arg17]; · iexact HR_arg17
  isplitl [HW_arg9]; · iexists _; iexact HW_arg9
  isplitl [HW_arg14]; · iexists _; iexact HW_arg14
  isplitl [HW_arg15]; · iexists _; iexact HW_arg15
  isplitl [HW_arg16]; · iexists _; iexact HW_arg16
  iexists _; iexact HW_arg18

set_option warn.classDefReducibility false in
/-- The loop goes through with its operands held as one trip holds them. -/
@[sl_loop] def loopInv_t2 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (v24 : IVec S8x128 1) (v35 : FVec F S128x128 .f32) (v39 : IVec S128x128 32)  (X_arg2 : BufTy.Contents (Elt F) arg2.view.ty) (X_arg4 : BufTy.Contents (Elt F) arg4.view.ty) (X_arg5 : BufTy.Contents (Elt F) arg5.view.ty) (X_arg17 : BufTy.Contents (Elt F) arg17.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v24 v35 v39  where
  inv := fun _ _ => Held_t2 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 X_arg17
  step := fun k acc => trip_t2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v24 v35 v39 X_arg2 X_arg4 X_arg5 X_arg17 k  Set.univ

end Cert.Kernel.Hand

end
-- ==== Proof.KernelBody.lean ====
/- Hand-written: the body at one grid point, run once by its loops' invariants. -/
module

public import proofs.«01_k».proof.Proof.KernelTrips
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Everything the body holds at a point: its seven operands at their contents, its results and scratch at any. -/
abbrev HeldAll (c : Dev nD) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))

/-- The body's reset condition at a point: both grid coordinates zero. -/
abbrev resetAt (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-- The body runs at a point and gives back what it was given. -/
theorem kernelRun_reset (c : Dev nD) (i : grid0.Coords) (hc : resetAt i = 1#1) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    HeldAll (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8
    ⊢ wp frame (wpE (defs₀ (F := F)) Variants.none (c : Thread nD τ) none) Set.univ (cc0_junction_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => HeldAll (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8) := by
  simp only [cc0_junction_bwd_eq_skeleton]; unfold cc0_junction_bwd_skel
  simp only [k0_part32_eq_skeleton, k0_part33_eq_skeleton, k0_part34_eq_skeleton, k0_part35_eq_skeleton]
  unfold k0_part32_skel k0_part33_skel k0_part34_skel k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  iintro ⟨HR_arg2, HR_arg3, HR_arg4, HR_arg5, HR_arg6, HR_arg7, HR_arg8, ⟨%f_arg9, HW_arg9⟩, ⟨%f_arg10, HW_arg10⟩, ⟨%f_arg11, HW_arg11⟩, ⟨%f_arg12, HW_arg12⟩, ⟨%f_arg13, HW_arg13⟩, ⟨%f_arg14, HW_arg14⟩, ⟨%f_arg15, HW_arg15⟩, ⟨%f_arg16, HW_arg16⟩, ⟨%f_arg17, HW_arg17⟩, ⟨%f_arg18, HW_arg18⟩, ⟨%f_arg19, HW_arg19⟩⟩
  sl_exec
  simp only [bind_assoc]
  iapply (Scf.wp_for_bind _ _ _ _ _ _ _ _ _ (fun _ _ => Held_t1 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 _) (fun k acc => trip_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 _ k acc Set.univ)) $$ [HR_arg2 HR_arg4 HR_arg6 HR_arg7 HR_arg8 HW_arg17 HW_arg10 HW_arg11 HW_arg16]
  · isplitl [HR_arg2]; · iexact HR_arg2
    isplitl [HR_arg4]; · iexact HR_arg4
    isplitl [HR_arg6]; · iexact HR_arg6
    isplitl [HR_arg7]; · iexact HR_arg7
    isplitl [HR_arg8]; · iexact HR_arg8
    isplitl [HW_arg17]; · iexact HW_arg17
    isplitl [HW_arg10]; · iexists _; iexact HW_arg10
    isplitl [HW_arg11]; · iexists _; iexact HW_arg11
    iexists _; iexact HW_arg16
  iintro %acc ⟨HR_arg2, HR_arg4, HR_arg6, HR_arg7, HR_arg8, HW_arg17, ⟨%f1_arg10, HW_arg10⟩, ⟨%f1_arg11, HW_arg11⟩, ⟨%f1_arg16, HW_arg16⟩⟩
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  isplitl [HW_arg13]; · iexists _; iexact HW_arg13
  isplitl [HW_arg14]; · iexists _; iexact HW_arg14
  isplitl [HW_arg15]; · iexists _; iexact HW_arg15
  isplitl [HW_arg16]; · iexists _; iexact HW_arg16
  isplitl [HW_arg17]; · iexists _; iexact HW_arg17
  isplitl [HW_arg18]; · iexists _; iexact HW_arg18
  iexists _; iexact HW_arg19

/-- The body runs at a point and gives back what it was given. -/
theorem kernelRun_keep (c : Dev nD) (i : grid0.Coords) (hc : ¬ (resetAt i = 1#1)) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    HeldAll (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8
    ⊢ wp frame (wpE (defs₀ (F := F)) Variants.none (c : Thread nD τ) none) Set.univ (cc0_junction_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => HeldAll (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8) := by
  simp only [cc0_junction_bwd_eq_skeleton]; unfold cc0_junction_bwd_skel
  simp only [k0_part32_eq_skeleton, k0_part33_eq_skeleton, k0_part34_eq_skeleton, k0_part35_eq_skeleton]
  unfold k0_part32_skel k0_part33_skel k0_part34_skel k0_part35_skel
  iintro ⟨HR_arg2, HR_arg3, HR_arg4, HR_arg5, HR_arg6, HR_arg7, HR_arg8, ⟨%f_arg9, HW_arg9⟩, ⟨%f_arg10, HW_arg10⟩, ⟨%f_arg11, HW_arg11⟩, ⟨%f_arg12, HW_arg12⟩, ⟨%f_arg13, HW_arg13⟩, ⟨%f_arg14, HW_arg14⟩, ⟨%f_arg15, HW_arg15⟩, ⟨%f_arg16, HW_arg16⟩, ⟨%f_arg17, HW_arg17⟩, ⟨%f_arg18, HW_arg18⟩, ⟨%f_arg19, HW_arg19⟩⟩
  sl_exec
  simp only [bind_assoc]
  iapply (Scf.wp_for_bind _ _ _ _ _ _ _ _ _ (fun _ _ => Held_t1 (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 _) (fun k acc => trip_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 _ k acc Set.univ)) $$ [HR_arg2 HR_arg4 HR_arg6 HR_arg7 HR_arg8 HW_arg17 HW_arg10 HW_arg11 HW_arg16]
  · isplitl [HR_arg2]; · iexact HR_arg2
    isplitl [HR_arg4]; · iexact HR_arg4
    isplitl [HR_arg6]; · iexact HR_arg6
    isplitl [HR_arg7]; · iexact HR_arg7
    isplitl [HR_arg8]; · iexact HR_arg8
    isplitl [HW_arg17]; · iexact HW_arg17
    isplitl [HW_arg10]; · iexists _; iexact HW_arg10
    isplitl [HW_arg11]; · iexists _; iexact HW_arg11
    iexists _; iexact HW_arg16
  iintro %acc ⟨HR_arg2, HR_arg4, HR_arg6, HR_arg7, HR_arg8, HW_arg17, ⟨%f1_arg10, HW_arg10⟩, ⟨%f1_arg11, HW_arg11⟩, ⟨%f1_arg16, HW_arg16⟩⟩
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  isplitl [HW_arg13]; · iexists _; iexact HW_arg13
  isplitl [HW_arg14]; · iexists _; iexact HW_arg14
  isplitl [HW_arg15]; · iexists _; iexact HW_arg15
  isplitl [HW_arg16]; · iexists _; iexact HW_arg16
  isplitl [HW_arg17]; · iexists _; iexact HW_arg17
  isplitl [HW_arg18]; · iexists _; iexact HW_arg18
  iexists _; iexact HW_arg19

end Cert.Kernel.Hand

end
-- ==== Proof.KernelFrame.lean ====
/- Hand-written: the frame — the body obligation at every grid point with the results forgotten, and the launch. -/
module

public import proofs.«01_k».proof.Proof.KernelBody
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body at any point. -/
theorem kernelRun (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    HeldAll (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8
    ⊢ wp frame (wpE (defs₀ (F := F)) Variants.none (c : Thread nD τ) none) Set.univ (cc0_junction_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => HeldAll (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8) := by
  by_cases hc : resetAt i = 1#1
  · exact kernelRun_reset c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8
  · exact kernelRun_keep c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg3 X_arg4 X_arg5 X_arg6 X_arg7 X_arg8

variable (m : (ℓ : Loc nD τ sig) → Buf (Elt F) ℓ) (ρ : Dev nD → PrngReg)

/-- The seven results are forgotten: the frame reads nothing the kernel leaves in them. -/
def forgets0 : Fin 14 → Bool := fun w => decide (7 ≤ w.val)

/-- The proof data: the arrays as the region finds them, the inputs' blocks left in place, the results unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d))

/-- The scratch and the generator register, buffer by buffer. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA; rw [scopedRest0_eq]; simp only [owns_whole]; try rfl
/-- One point's body: the operands opened, the run, the operands closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6]
  have run := fun (i : grid0.Coords) => @kernelRun F _ c i
  unfold owns
  iintro ⟨⟨⟨⟨%ds0, %fs0, %hs0, S0⟩, ⟨%ds1, %fs1, %hs1, S1⟩, ⟨%ds2, %fs2, %hs2, S2⟩, ⟨%ds3, %fs3, %hs3, S3⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩⟩
  iapply (wp_wand_r _ _ _)
  isplitl [H0 H1 H2 H3 H4 H5 H6 H7 H8 H9 H10 H11 H12 H13 S0 S1 S2 S3]
  · iapply (run _ _ _ _ _ _ _ _ _ _ _ _ _ _ _ _ _ _ _ _ _ _ _ _ _ _ _ _ _ _ _ _ _ _ _ _ _ f0 f1 f2 f3 f4 f5 f6) $$ [H0 H1 H2 H3 H4 H5 H6 H7 H8 H9 H10 H11 H12 H13 S0 S1 S2 S3]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [S0]; · iexists _; iexact S0
    isplitl [S1]; · iexists _; iexact S1
    isplitl [S2]; · iexists _; iexact S2
    iexists _; iexact S3
  iintro %_u ⟨H0, H1, H2, H3, H4, H5, H6, ⟨%g7, H7⟩, ⟨%g8, H8⟩, ⟨%g9, H9⟩, ⟨%g10, H10⟩, ⟨%g11, H11⟩, ⟨%g12, H12⟩, ⟨%g13, H13⟩, ⟨%gs0, S0⟩, ⟨%gs1, S1⟩, ⟨%gs2, S2⟩, ⟨%gs3, S3⟩⟩
  isplitl [S0 S1 S2 S3 Hg]
  · isplitl [S0 S1 S2 S3]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      iexists _, _; isplitr; swap; · iexact S3
      ipureintro; rfl
    iexact Hg
  isplitl [Ho]; · iexact Ho
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs and the buffers no window stages end as they began, and every semaphore counter reads zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs, its arguments end unchanged, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c)),
    ((h.1 c).2 main_arg2 (Pipeline.mem_restRefs_of main_arg2 (by decide) (by decide))).trans (V_main_arg2 m c),
    (Pipeline.RDat.FramePost.arr_in h.1 c 3 rfl).trans ((A_eq m c 3).trans (V_main_arg3 m c)),
    (Pipeline.RDat.FramePost.arr_in h.1 c 4 rfl).trans ((A_eq m c 4).trans (V_main_arg4 m c)),
    (Pipeline.RDat.FramePost.arr_in h.1 c 5 rfl).trans ((A_eq m c 5).trans (V_main_arg5 m c)),
    (Pipeline.RDat.FramePost.arr_in h.1 c 6 rfl).trans ((A_eq m c 6).trans (V_main_arg6 m c))⟩, h.2⟩) (run_main m ρ)

end Cert.Kernel.Hand

end
-- ==== Proof.BlockStores.lean ====
/- Hand-written: what a buffer of 7168 columns reads after one trip of a loop over blocks of 128 columns has stored its four blocks,
   the plain stores and the ones masked to one row. -/
module

public import Idealize.ShloMosaic.Lib.Pointwise
public import Idealize.ShloMosaic.Lib.WritesUnit
@[expose] public section

set_option maxRecDepth 16384
noncomputable section

namespace Cert.Blocks

open Idealize.ShloMosaic

variable {sig : RefSig} {κ : Kind} {sp : Space} {s : Shape} {e : EltTy} {Val : EltTy → Type}

/-- A store through a unit-stride rectangle under a mask, read at a place of the rectangle that the mask holds. -/
theorem read_write_hit (v : View sig κ sp s e) (f : v.ty.Contents Val) {off off' size : Fin s.rank → ℕ}
    (inb : ∀ a, off a + size a ≤ s.size a) (w : (Rect.unit off size inb).shape.Idx → Val e)
    (M : Finset (Rect.unit off size inb).shape.Idx) (y : s.Idx) (x : (Rect.unit off size inb).shape.Idx)
    (heq : off = off') (hx : ∀ a, (y a).val = off' a + (x a).val) (hM : x ∈ M) :
    v.read Val ((v.slice (Rect.unit off size inb)).write Val f w M) y = w x := by
  subst heq
  have hy : (Rect.unit off size inb).emb x = y := funext fun a => Fin.ext (by
    show off a + 1 * (x a).val = (y a).val
    rw [hx a, Nat.one_mul])
  rw [← hy]
  exact View.read_slice_write_emb _ _ _ hM

/-- The same read at a place of the rectangle that the mask leaves out. -/
theorem read_write_masked (v : View sig κ sp s e) (f : v.ty.Contents Val) {off off' size : Fin s.rank → ℕ}
    (inb : ∀ a, off a + size a ≤ s.size a) (w : (Rect.unit off size inb).shape.Idx → Val e)
    (M : Finset (Rect.unit off size inb).shape.Idx) (y : s.Idx) (x : (Rect.unit off size inb).shape.Idx)
    (heq : off = off') (hx : ∀ a, (y a).val = off' a + (x a).val) (hM : x ∉ M) :
    v.read Val ((v.slice (Rect.unit off size inb)).write Val f w M) y = v.read Val f y := by
  subst heq
  have hy : (Rect.unit off size inb).emb x = y := funext fun a => Fin.ext (by
    show off a + 1 * (x a).val = (y a).val
    rw [hx a, Nat.one_mul])
  apply View.read_slice_write_of_not_mem
  rw [← hy]
  intro h
  obtain ⟨x', hx', e⟩ := Finset.mem_map.mp h
  rw [(Rect.unit off size inb).emb.injective e] at hx'
  exact hM hx'

/-- The same read at a place outside the rectangle. -/
theorem read_write_miss (v : View sig κ sp s e) (f : v.ty.Contents Val) {off off' size : Fin s.rank → ℕ}
    (inb : ∀ a, off a + size a ≤ s.size a) (w : (Rect.unit off size inb).shape.Idx → Val e)
    (M : Finset (Rect.unit off size inb).shape.Idx) (y : s.Idx)
    (heq : off = off') (a : Fin s.rank) (ha : (y a).val < off' a ∨ off' a + size a ≤ (y a).val) :
    v.read Val ((v.slice (Rect.unit off size inb)).write Val f w M) y = v.read Val f y := by
  subst heq
  apply View.read_slice_write_of_not_mem
  intro h
  obtain ⟨x, -, e⟩ := Finset.mem_map.mp h
  have : off a + 1 * (x a).val = (y a).val := by rw [← e]; rfl
  have hl : (x a).val < size a := (x a).isLt
  omega

section Two

variable {R : ℕ} (v : View sig κ sp ⟨2, ![R, 7168]⟩ e) (f : v.ty.Contents Val)

theorem hit2 {W : ℕ} {off : Fin 2 → ℕ} (inb : ∀ a : Fin 2, off a + (![R, W] : Fin 2 → ℕ) a ≤ (![R, 7168] : Fin 2 → ℕ) a)
    (w : (⟨2, ![R, W]⟩ : Shape).Idx → Val e) (p : Fin R) (d : Fin 7168) (l : Fin W) (o : ℕ) (hoff : off = ![0, o])
    (hd : d.val = o + l.val) :
    v.read Val ((v.slice (Rect.unit (s := ⟨2, ![R, 7168]⟩) off (![R, W] : Fin 2 → ℕ) inb)).write Val f w Finset.univ) (ix2 p d)
      = w (ix2 p l) := by
  refine read_write_hit v f inb w Finset.univ (ix2 p d) (ix2 p l) hoff ?_ (Finset.mem_univ _)
  intro a; fin_cases a
  · show p.val = 0 + p.val; omega
  · show d.val = o + l.val; omega

theorem miss2 {W : ℕ} {off : Fin 2 → ℕ} (inb : ∀ a : Fin 2, off a + (![R, W] : Fin 2 → ℕ) a ≤ (![R, 7168] : Fin 2 → ℕ) a)
    (w : (⟨2, ![R, W]⟩ : Shape).Idx → Val e) (p : Fin R) (d : Fin 7168) (o : ℕ) (hoff : off = ![0, o])
    (hd : d.val < o ∨ o + W ≤ d.val) :
    v.read Val ((v.slice (Rect.unit (s := ⟨2, ![R, 7168]⟩) off (![R, W] : Fin 2 → ℕ) inb)).write Val f w Finset.univ) (ix2 p d)
      = v.read Val f (ix2 p d) :=
  read_write_miss v f inb w Finset.univ (ix2 p d) hoff (1 : Fin 2) hd

/-- Four blocks stored in one trip. -/
theorem four2 {off0 off1 off2 off3 : Fin 2 → ℕ} (inb0 : ∀ a : Fin 2, off0 a + (![R, 128] : Fin 2 → ℕ) a ≤ (![R, 7168] : Fin 2 → ℕ) a)
    (inb1 : ∀ a : Fin 2, off1 a + (![R, 128] : Fin 2 → ℕ) a ≤ (![R, 7168] : Fin 2 → ℕ) a)
    (inb2 : ∀ a : Fin 2, off2 a + (![R, 128] : Fin 2 → ℕ) a ≤ (![R, 7168] : Fin 2 → ℕ) a)
    (inb3 : ∀ a : Fin 2, off3 a + (![R, 128] : Fin 2 → ℕ) a ≤ (![R, 7168] : Fin 2 → ℕ) a)
    (w0 w1 w2 w3 : (⟨2, ![R, 128]⟩ : Shape).Idx → Val e) (k : ℕ) (G : Fin R → Fin 7168 → Val e)
    (h0 : off0 = ![0, 512 * k + 128 * 0]) (h1 : off1 = ![0, 512 * k + 128 * 1])
    (h2 : off2 = ![0, 512 * k + 128 * 2]) (h3 : off3 = ![0, 512 * k + 128 * 3])
    (g0 : ∀ p l (d : Fin 7168), d.val = 512 * k + 128 * 0 + l.val → w0 (ix2 p l) = G p d)
    (g1 : ∀ p l (d : Fin 7168), d.val = 512 * k + 128 * 1 + l.val → w1 (ix2 p l) = G p d)
    (g2 : ∀ p l (d : Fin 7168), d.val = 512 * k + 128 * 2 + l.val → w2 (ix2 p l) = G p d)
    (g3 : ∀ p l (d : Fin 7168), d.val = 512 * k + 128 * 3 + l.val → w3 (ix2 p l) = G p d) (p : Fin R) (d : Fin 7168) :
    v.read Val (v.writes Val f [⟨Rect.unit (s := ⟨2, ![R, 7168]⟩) off3 (![R, 128] : Fin 2 → ℕ) inb3, w3⟩,
        ⟨Rect.unit (s := ⟨2, ![R, 7168]⟩) off2 (![R, 128] : Fin 2 → ℕ) inb2, w2⟩,
        ⟨Rect.unit (s := ⟨2, ![R, 7168]⟩) off1 (![R, 128] : Fin 2 → ℕ) inb1, w1⟩,
        ⟨Rect.unit (s := ⟨2, ![R, 7168]⟩) off0 (![R, 128] : Fin 2 → ℕ) inb0, w0⟩]) (ix2 p d)
      = if d.val / 512 = k then G p d else v.read Val f (ix2 p d) := by
  simp only [View.writes_cons, View.writes_nil]
  by_cases hk : d.val / 512 = k
  · rw [if_pos hk]
    by_cases c3 : 512 * k + 128 * 3 ≤ d.val
    · rw [hit2 v _ inb3 w3 p d ⟨d.val - (512 * k + 128 * 3), by omega⟩ _ h3 (by show _ = _ + (_ - _); omega)]
      exact g3 _ _ _ (by show _ = _ + (_ - _); omega)
    rw [miss2 v _ inb3 w3 p d _ h3 (by omega)]
    by_cases c2 : 512 * k + 128 * 2 ≤ d.val
    · rw [hit2 v _ inb2 w2 p d ⟨d.val - (512 * k + 128 * 2), by omega⟩ _ h2 (by show _ = _ + (_ - _); omega)]
      exact g2 _ _ _ (by show _ = _ + (_ - _); omega)
    rw [miss2 v _ inb2 w2 p d _ h2 (by omega)]
    by_cases c1 : 512 * k + 128 * 1 ≤ d.val
    · rw [hit2 v _ inb1 w1 p d ⟨d.val - (512 * k + 128 * 1), by omega⟩ _ h1 (by show _ = _ + (_ - _); omega)]
      exact g1 _ _ _ (by show _ = _ + (_ - _); omega)
    rw [miss2 v _ inb1 w1 p d _ h1 (by omega)]
    rw [hit2 v _ inb0 w0 p d ⟨d.val - (512 * k + 128 * 0), by omega⟩ _ h0 (by show _ = _ + (_ - _); omega)]
    exact g0 _ _ _ (by show _ = _ + (_ - _); omega)
  · rw [if_neg hk, miss2 v _ inb3 w3 p d _ h3 (by omega), miss2 v _ inb2 w2 p d _ h2 (by omega),
      miss2 v _ inb1 w1 p d _ h1 (by omega), miss2 v _ inb0 w0 p d _ h0 (by omega)]

end Two

section Three

variable {R : ℕ} (v : View sig κ sp ⟨3, ![1, R, 7168]⟩ e) (f : v.ty.Contents Val)

theorem hit3 {W : ℕ} {off : Fin 3 → ℕ} (inb : ∀ a : Fin 3, off a + (![1, R, W] : Fin 3 → ℕ) a ≤ (![1, R, 7168] : Fin 3 → ℕ) a)
    (w : (⟨3, ![1, R, W]⟩ : Shape).Idx → Val e) (M : Finset (⟨3, ![1, R, W]⟩ : Shape).Idx) (p : Fin R) (d : Fin 7168) (l : Fin W)
    (o : ℕ) (hoff : off = ![0, 0, o]) (hd : d.val = o + l.val) (hM : ix3 0 p l ∈ M) :
    v.read Val ((v.slice (Rect.unit (s := ⟨3, ![1, R, 7168]⟩) off (![1, R, W] : Fin 3 → ℕ) inb)).write Val f w M) (ix3 0 p d)
      = w (ix3 0 p l) := by
  refine read_write_hit v f inb w M (ix3 0 p d) (ix3 0 p l) hoff ?_ hM
  intro a; fin_cases a
  · rfl
  · show p.val = 0 + p.val; omega
  · show d.val = o + l.val; omega

theorem masked3 {W : ℕ} {off : Fin 3 → ℕ} (inb : ∀ a : Fin 3, off a + (![1, R, W] : Fin 3 → ℕ) a ≤ (![1, R, 7168] : Fin 3 → ℕ) a)
    (w : (⟨3, ![1, R, W]⟩ : Shape).Idx → Val e) (M : Finset (⟨3, ![1, R, W]⟩ : Shape).Idx) (p : Fin R) (d : Fin 7168)
    (o : ℕ) (hoff : off = ![0, 0, o]) (hM : ∀ l, ix3 0 p l ∉ M) :
    v.read Val ((v.slice (Rect.unit (s := ⟨3, ![1, R, 7168]⟩) off (![1, R, W] : Fin 3 → ℕ) inb)).write Val f w M) (ix3 0 p d)
      = v.read Val f (ix3 0 p d) := by
  by_cases hd : o ≤ d.val ∧ d.val < o + W
  · refine read_write_masked v f inb w M (ix3 0 p d) (ix3 0 p ⟨d.val - o, by omega⟩) hoff ?_ (hM _)
    intro a; fin_cases a
    · rfl
    · show p.val = 0 + p.val; omega
    · show d.val = o + (d.val - o); omega
  · exact read_write_miss v f inb w M (ix3 0 p d) hoff (2 : Fin 3) (by show d.val < o ∨ o + W ≤ d.val; omega)

theorem miss3 {W : ℕ} {off : Fin 3 → ℕ} (inb : ∀ a : Fin 3, off a + (![1, R, W] : Fin 3 → ℕ) a ≤ (![1, R, 7168] : Fin 3 → ℕ) a)
    (w : (⟨3, ![1, R, W]⟩ : Shape).Idx → Val e) (M : Finset (⟨3, ![1, R, W]⟩ : Shape).Idx) (p : Fin R) (d : Fin 7168)
    (o : ℕ) (hoff : off = ![0, 0, o]) (hd : d.val < o ∨ o + W ≤ d.val) :
    v.read Val ((v.slice (Rect.unit (s := ⟨3, ![1, R, 7168]⟩) off (![1, R, W] : Fin 3 → ℕ) inb)).write Val f w M) (ix3 0 p d)
      = v.read Val f (ix3 0 p d) :=
  read_write_miss v f inb w M (ix3 0 p d) hoff (2 : Fin 3) hd

/-- Four blocks stored in one trip, each under a mask that holds the rows `P` says. -/
theorem four3 (P : Fin R → Prop) [DecidablePred P] {off0 off1 off2 off3 : Fin 3 → ℕ}
    (inb0 : ∀ a : Fin 3, off0 a + (![1, R, 128] : Fin 3 → ℕ) a ≤ (![1, R, 7168] : Fin 3 → ℕ) a)
    (inb1 : ∀ a : Fin 3, off1 a + (![1, R, 128] : Fin 3 → ℕ) a ≤ (![1, R, 7168] : Fin 3 → ℕ) a)
    (inb2 : ∀ a : Fin 3, off2 a + (![1, R, 128] : Fin 3 → ℕ) a ≤ (![1, R, 7168] : Fin 3 → ℕ) a)
    (inb3 : ∀ a : Fin 3, off3 a + (![1, R, 128] : Fin 3 → ℕ) a ≤ (![1, R, 7168] : Fin 3 → ℕ) a)
    (w0 w1 w2 w3 : (⟨3, ![1, R, 128]⟩ : Shape).Idx → Val e) (M0 M1 M2 M3 : Finset (⟨3, ![1, R, 128]⟩ : Shape).Idx)
    (k : ℕ) (G : Fin R → Fin 7168 → Val e)
    (h0 : off0 = ![0, 0, 512 * k + 128 * 0]) (h1 : off1 = ![0, 0, 512 * k + 128 * 1])
    (h2 : off2 = ![0, 0, 512 * k + 128 * 2]) (h3 : off3 = ![0, 0, 512 * k + 128 * 3])
    (m0 : ∀ p l, ix3 0 p l ∈ M0 ↔ P p) (m1 : ∀ p l, ix3 0 p l ∈ M1 ↔ P p)
    (m2 : ∀ p l, ix3 0 p l ∈ M2 ↔ P p) (m3 : ∀ p l, ix3 0 p l ∈ M3 ↔ P p)
    (g0 : ∀ p l (d : Fin 7168), d.val = 512 * k + 128 * 0 + l.val → P p → w0 (ix3 0 p l) = G p d)
    (g1 : ∀ p l (d : Fin 7168), d.val = 512 * k + 128 * 1 + l.val → P p → w1 (ix3 0 p l) = G p d)
    (g2 : ∀ p l (d : Fin 7168), d.val = 512 * k + 128 * 2 + l.val → P p → w2 (ix3 0 p l) = G p d)
    (g3 : ∀ p l (d : Fin 7168), d.val = 512 * k + 128 * 3 + l.val → P p → w3 (ix3 0 p l) = G p d) (p : Fin R) (d : Fin 7168) :
    v.read Val ((v.slice (Rect.unit (s := ⟨3, ![1, R, 7168]⟩) off3 (![1, R, 128] : Fin 3 → ℕ) inb3)).write Val
      ((v.slice (Rect.unit (s := ⟨3, ![1, R, 7168]⟩) off2 (![1, R, 128] : Fin 3 → ℕ) inb2)).write Val
      ((v.slice (Rect.unit (s := ⟨3, ![1, R, 7168]⟩) off1 (![1, R, 128] : Fin 3 → ℕ) inb1)).write Val
      ((v.slice (Rect.unit (s := ⟨3, ![1, R, 7168]⟩) off0 (![1, R, 128] : Fin 3 → ℕ) inb0)).write Val f
        w0 M0) w1 M1) w2 M2) w3 M3) (ix3 0 p d)
      = if P p ∧ d.val / 512 = k then G p d else v.read Val f (ix3 0 p d) := by
  by_cases hP : P p
  · by_cases hk : d.val / 512 = k
    · rw [if_pos ⟨hP, hk⟩]
      by_cases c3 : 512 * k + 128 * 3 ≤ d.val
      · rw [hit3 v _ inb3 w3 M3 p d ⟨d.val - (512 * k + 128 * 3), by omega⟩ _ h3 (by show _ = _ + (_ - _); omega) ((m3 _ _).2 hP)]
        exact g3 _ _ _ (by show _ = _ + (_ - _); omega) hP
      rw [miss3 v _ inb3 w3 M3 p d _ h3 (by omega)]
      by_cases c2 : 512 * k + 128 * 2 ≤ d.val
      · rw [hit3 v _ inb2 w2 M2 p d ⟨d.val - (512 * k + 128 * 2), by omega⟩ _ h2 (by show _ = _ + (_ - _); omega) ((m2 _ _).2 hP)]
        exact g2 _ _ _ (by show _ = _ + (_ - _); omega) hP
      rw [miss3 v _ inb2 w2 M2 p d _ h2 (by omega)]
      by_cases c1 : 512 * k + 128 * 1 ≤ d.val
      · rw [hit3 v _ inb1 w1 M1 p d ⟨d.val - (512 * k + 128 * 1), by omega⟩ _ h1 (by show _ = _ + (_ - _); omega) ((m1 _ _).2 hP)]
        exact g1 _ _ _ (by show _ = _ + (_ - _); omega) hP
      rw [miss3 v _ inb1 w1 M1 p d _ h1 (by omega)]
      rw [hit3 v _ inb0 w0 M0 p d ⟨d.val - (512 * k + 128 * 0), by omega⟩ _ h0 (by show _ = _ + (_ - _); omega) ((m0 _ _).2 hP)]
      exact g0 _ _ _ (by show _ = _ + (_ - _); omega) hP
    · rw [if_neg (fun h => hk h.2), miss3 v _ inb3 w3 M3 p d _ h3 (by omega), miss3 v _ inb2 w2 M2 p d _ h2 (by omega),
        miss3 v _ inb1 w1 M1 p d _ h1 (by omega), miss3 v _ inb0 w0 M0 p d _ h0 (by omega)]
  · rw [if_neg (fun h => hP h.1), masked3 v _ inb3 w3 M3 p d _ h3 (fun l h => hP ((m3 _ _).1 h)),
      masked3 v _ inb2 w2 M2 p d _ h2 (fun l h => hP ((m2 _ _).1 h)), masked3 v _ inb1 w1 M1 p d _ h1 (fun l h => hP ((m1 _ _).1 h)),
      masked3 v _ inb0 w0 M0 p d _ h0 (fun l h => hP ((m0 _ _).1 h))]

end Three

section Lanes

variable (v : View sig κ sp ⟨2, ![128, 128]⟩ e) (f : v.ty.Contents Val)

/-- Whole-buffer stores masked to one lane each, four in one trip: lanes `4 k + u`. -/
theorem four_lanes {off0 off1 off2 off3 : Fin 2 → ℕ} (inb0 : ∀ a : Fin 2, off0 a + (![128, 128] : Fin 2 → ℕ) a ≤ (![128, 128] : Fin 2 → ℕ) a)
    (inb1 : ∀ a : Fin 2, off1 a + (![128, 128] : Fin 2 → ℕ) a ≤ (![128, 128] : Fin 2 → ℕ) a)
    (inb2 : ∀ a : Fin 2, off2 a + (![128, 128] : Fin 2 → ℕ) a ≤ (![128, 128] : Fin 2 → ℕ) a)
    (inb3 : ∀ a : Fin 2, off3 a + (![128, 128] : Fin 2 → ℕ) a ≤ (![128, 128] : Fin 2 → ℕ) a)
    (w0 w1 w2 w3 : (⟨2, ![128, 128]⟩ : Shape).Idx → Val e) (M0 M1 M2 M3 : Finset (⟨2, ![128, 128]⟩ : Shape).Idx)
    (k : ℕ) (G : Fin 128 → Fin 128 → Val e)
    (h0 : off0 = ![0, 0]) (h1 : off1 = ![0, 0]) (h2 : off2 = ![0, 0]) (h3 : off3 = ![0, 0])
    (m0 : ∀ p l : Fin 128, ix2 p l ∈ M0 ↔ l.val = 4 * k + 0) (m1 : ∀ p l : Fin 128, ix2 p l ∈ M1 ↔ l.val = 4 * k + 1)
    (m2 : ∀ p l : Fin 128, ix2 p l ∈ M2 ↔ l.val = 4 * k + 2) (m3 : ∀ p l : Fin 128, ix2 p l ∈ M3 ↔ l.val = 4 * k + 3)
    (g0 : ∀ p l : Fin 128, l.val = 4 * k + 0 → w0 (ix2 p l) = G p l) (g1 : ∀ p l : Fin 128, l.val = 4 * k + 1 → w1 (ix2 p l) = G p l)
    (g2 : ∀ p l : Fin 128, l.val = 4 * k + 2 → w2 (ix2 p l) = G p l) (g3 : ∀ p l : Fin 128, l.val = 4 * k + 3 → w3 (ix2 p l) = G p l)
    (p l : Fin 128) :
    v.read Val ((v.slice (Rect.unit (s := ⟨2, ![128, 128]⟩) off3 (![128, 128] : Fin 2 → ℕ) inb3)).write Val
      ((v.slice (Rect.unit (s := ⟨2, ![128, 128]⟩) off2 (![128, 128] : Fin 2 → ℕ) inb2)).write Val
      ((v.slice (Rect.unit (s := ⟨2, ![128, 128]⟩) off1 (![128, 128] : Fin 2 → ℕ) inb1)).write Val
      ((v.slice (Rect.unit (s := ⟨2, ![128, 128]⟩) off0 (![128, 128] : Fin 2 → ℕ) inb0)).write Val f
        w0 M0) w1 M1) w2 M2) w3 M3) (ix2 p l)
      = if l.val / 4 = k then G p l else v.read Val f (ix2 p l) := by
  have hx : ∀ a : Fin 2, ((ix2 p l : (⟨2, ![128, 128]⟩ : Shape).Idx) a).val = (![0, 0] : Fin 2 → ℕ) a + ((ix2 p l : (⟨2, ![128, 128]⟩ : Shape).Idx) a).val := by
    intro a; fin_cases a <;> simp
  by_cases c3 : l.val = 4 * k + 3
  · rw [if_pos (by omega), read_write_hit v _ inb3 w3 M3 (ix2 p l) (ix2 p l) h3 hx ((m3 _ _).2 c3)]; exact g3 _ _ c3
  rw [read_write_masked v _ inb3 w3 M3 (ix2 p l) (ix2 p l) h3 hx (fun h => c3 ((m3 _ _).1 h))]
  by_cases c2 : l.val = 4 * k + 2
  · rw [if_pos (by omega), read_write_hit v _ inb2 w2 M2 (ix2 p l) (ix2 p l) h2 hx ((m2 _ _).2 c2)]; exact g2 _ _ c2
  rw [read_write_masked v _ inb2 w2 M2 (ix2 p l) (ix2 p l) h2 hx (fun h => c2 ((m2 _ _).1 h))]
  by_cases c1 : l.val = 4 * k + 1
  · rw [if_pos (by omega), read_write_hit v _ inb1 w1 M1 (ix2 p l) (ix2 p l) h1 hx ((m1 _ _).2 c1)]; exact g1 _ _ c1
  rw [read_write_masked v _ inb1 w1 M1 (ix2 p l) (ix2 p l) h1 hx (fun h => c1 ((m1 _ _).1 h))]
  by_cases c0 : l.val = 4 * k + 0
  · rw [if_pos (by omega), read_write_hit v _ inb0 w0 M0 (ix2 p l) (ix2 p l) h0 hx ((m0 _ _).2 c0)]; exact g0 _ _ c0
  rw [read_write_masked v _ inb0 w0 M0 (ix2 p l) (ix2 p l) h0 hx (fun h => c0 ((m0 _ _).1 h)), if_neg (by omega)]

end Lanes

/-- A block of columns loaded from a buffer of two axes. -/
theorem load2 {R C W : ℕ} (v : View sig κ sp ⟨2, ![R, C]⟩ e) (f : v.ty.Contents Val) {off : Fin 2 → ℕ}
    (inb : ∀ a : Fin 2, off a + (![R, W] : Fin 2 → ℕ) a ≤ (![R, C] : Fin 2 → ℕ) a) (p : Fin R) (l : Fin W) (d : Fin C) (o : ℕ)
    (hoff : off = ![0, o]) (hd : d.val = o + l.val) :
    v.readAt Val (Rect.unit (s := ⟨2, ![R, C]⟩) off (![R, W] : Fin 2 → ℕ) inb).toLoadRect f (ix2 p l) = v.read Val f (ix2 p d) := by
  subst hoff
  rw [View.readAt_apply]
  refine congrArg _ (funext fun a => Fin.ext ?_)
  fin_cases a
  · show 0 + 1 * p.val = p.val; omega
  · show o + 1 * l.val = d.val; omega

/-- A block of columns loaded from a buffer of three axes, the first of one place. -/
theorem load3 {R C W : ℕ} (v : View sig κ sp ⟨3, ![1, R, C]⟩ e) (f : v.ty.Contents Val) {off : Fin 3 → ℕ}
    (inb : ∀ a : Fin 3, off a + (![1, R, W] : Fin 3 → ℕ) a ≤ (![1, R, C] : Fin 3 → ℕ) a) (p : Fin R) (l : Fin W) (d : Fin C) (o : ℕ)
    (hoff : off = ![0, 0, o]) (hd : d.val = o + l.val) :
    v.readAt Val (Rect.unit (s := ⟨3, ![1, R, C]⟩) off (![1, R, W] : Fin 3 → ℕ) inb).toLoadRect f (ix3 0 p l) = v.read Val f (ix3 0 p d) := by
  subst hoff
  rw [View.readAt_apply]
  refine congrArg _ (funext fun a => Fin.ext ?_)
  fin_cases a
  · rfl
  · show 0 + 1 * p.val = p.val; omega
  · show o + 1 * l.val = d.val; omega

end Cert.Blocks

end
-- ==== Proof.KernelIdealPoint.lean ====
/- Hand-written: what one grid point computes, as functions of the blocks it reads, on extended reals. -/
module

public import proofs.«01_k».proof.Proof.Gen.KernelIdeal.Frame
public import proofs.«01_k».proof.Proof.Gen.KernelIdeal.Loops
public import proofs.«01_k».proof.Proof.BlockStores
public import Idealize.ShloMosaic.Lib.WordCmp
public import Idealize.ShloMosaic.Lib.MemrefSat
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The blocks one grid point reads: the three gradients, the input, the residual gradient, the weights and the
    reciprocal deviations of its rows. -/
structure Tile where
  Q : Fin 128 → Fin 7168 → EReal
  K : Fin 128 → Fin 7168 → EReal
  V : Fin 128 → Fin 7168 → EReal
  X : Fin 128 → Fin 7168 → EReal
  D : Fin 128 → Fin 7168 → EReal
  Γ : Fin 7168 → EReal
  r : Fin 128 → EReal

/-- Column `l` of block `n`. -/
def col (n : ℕ) (l : Fin 128) : Fin 7168 := ⟨(128 * n + l.val) % 7168, Nat.mod_lt _ (by decide)⟩

theorem col_eq {n : ℕ} {l : Fin 128} {d : Fin 7168} (h : d.val = 128 * n + l.val) : col n l = d :=
  Fin.ext (by show (128 * n + l.val) % 7168 = d.val; rw [← h]; exact Nat.mod_eq_of_lt d.isLt)

namespace Tile
variable (T : Tile)

/-- The summed gradient scaled by its row's reciprocal deviation. -/
def g (p : Fin 128) (d : Fin 7168) : EReal := ((T.Q p d + T.K p d) + T.V p d) * T.r p
/-- That times the input: what a weight's gradient sums. -/
def y (p : Fin 128) (d : Fin 7168) : EReal := T.g p d * T.X p d
/-- The tile's share of a weight's gradient. -/
def part (d : Fin 7168) : EReal := ∑ p, T.y p d
/-- What block `n` adds to lane `l` of row `p`'s inner product. -/
def term (p : Fin 128) (n : ℕ) (l : Fin 128) : EReal := T.y p (col n l) * T.Γ (col n l)
/-- Lane `l` of row `p`'s inner product after `n` blocks. -/
def acc (n : ℕ) (p l : Fin 128) : EReal := ∑ j ∈ Finset.range n, T.term p j l
/-- The row's mean inner product. -/
def c (p : Fin 128) : EReal := (∑ l, T.acc 56 p l) * (Named.named (F := Ideal) (φ := FTy.f32) Cert.KernelIdeal.κ "inv_d" 0x39124925#32 : EReal)
/-- What the input is multiplied by. -/
def xk (p : Fin 128) : EReal := T.r p * (T.r p * T.c p)
/-- The gradient the point stores. -/
def t (p : Fin 128) (d : Fin 7168) : EReal := (T.g p d * T.Γ d - T.X p d * T.xk p) + T.D p d

theorem acc_zero (p l : Fin 128) : T.acc 0 p l = 0 := rfl
theorem acc_four (k : ℕ) (p l : Fin 128) :
    T.acc (4 * (k + 1)) p l = T.acc (4 * k) p l + T.term p (4 * k + 0) l + T.term p (4 * k + 1) l + T.term p (4 * k + 2) l
      + T.term p (4 * k + 3) l := by
  show T.acc (4 * k + 3 + 1) p l = _
  unfold acc
  rw [Finset.sum_range_succ, Finset.sum_range_succ, Finset.sum_range_succ, Finset.sum_range_succ]
  rfl
end Tile

/-- A word mask holds a place exactly where its bit is one. -/
theorem mem_on {s : Shape} (m : IVec s 1) (x : s.Idx) : x ∈ IVec.on m ↔ m x = 1#1 := by
  unfold IVec.on; simp

theorem row_mask (i : grid0.Coords) (s : Fin 8) (l : Fin 128) : k0_pay165 i (ix2 s l) = 1#1 ↔ s.val = (i 1).val := by
  pointwise [k0_pay165]
  have h1 : (i 1).val < 8 := (i 1).isLt
  have h2 := s.isLt
  rw [WordCmp.cmpi_eq_ofNat (by omega) (by omega)]
  by_cases h : s.val = (i 1).val <;> simp [h]
theorem row_mask172 (i : grid0.Coords) (s : Fin 8) (l : Fin 128) : k0_pay172 i (ix3 0 s l) = 1#1 ↔ s.val = (i 1).val := by
  rw [← row_mask i s l]; pointwise [k0_pay172]

/-- The lane of a trip's block, as the word the kernel compares with. -/
theorem lane_word (k : ℕ) (hk : k < 14) (u : ℕ) (hu : u < 4) (l : Fin 128) :
    IntOp.cmpi .eq (BitVec.ofNat 32 l.val) (Scalar.addi (Scalar.muli (Scf.iv 0#32 1#32 k) 4#32) (BitVec.ofNat 32 u)) = 1#1
      ↔ l.val = 4 * k + u := by
  have e : Scalar.addi (Scalar.muli (Scf.iv 0#32 1#32 k) 4#32) (BitVec.ofNat 32 u) = BitVec.ofNat 32 (4 * k + u) := by
    show ((0#32 + BitVec.ofNat 32 k * 1#32) * 4#32) + BitVec.ofNat 32 u = _
    apply BitVec.eq_of_toNat_eq
    simp [BitVec.toNat_add, BitVec.toNat_mul, BitVec.toNat_ofNat]
    omega
  have hl := l.isLt
  rw [e, WordCmp.cmpi_eq_ofNat (by omega) (by omega)]
  by_cases h : l.val = 4 * k + u <;> simp [h]

end Cert.KernelIdeal.Hand

end
-- ==== Proof.KernelIdealExp.lean ====
/- Hand-written: the exponent of a block's scale, found bit by bit, and what a point quantises with it. -/
module

public import proofs.«01_k».proof.Proof.KernelIdealPoint
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- One bit of the search for the exponent field. -/
def stepV {s : Shape} (m : FVec Ideal s .f32) (b : BitVec 32) (e : IVec s 32) : IVec s 32 :=
  select (cmpf .oge m (bitcastToFloat .f32 (shli (select (cmpi .sgt (addi e (broadcast s b)) (broadcast s 246#32)) (broadcast s 255#32)
    (addi e (broadcast s b))) (broadcast s 23#32))))
    (select (cmpi .sgt (addi e (broadcast s b)) (broadcast s 246#32)) (broadcast s 255#32) (addi e (broadcast s b))) e

/-- The exponent field of a number that is not negative. -/
def fieldV {s : Shape} (m : FVec Ideal s .f32) : IVec s 32 :=
  stepV m 1#32 (stepV m 2#32 (stepV m 4#32 (stepV m 8#32 (stepV m 16#32 (stepV m 32#32 (stepV m 64#32 (stepV m 128#32 (broadcast s 0#32))))))))

/-- The exponent from its field: zero for the fields of zero and of infinity. -/
def exponentV {s : Shape} (f : IVec s 32) : IVec s 32 :=
  select (ori (cmpi .eq f (broadcast s 0#32)) (cmpi .eq f (broadcast s 255#32))) (broadcast s 0#32) (subi f (broadcast s 126#32))

/-- The exponent of a block's scale. -/
def expV {s : Shape} (m : FVec Ideal s .f32) : IVec s 32 := exponentV (fieldV m)

/-- One bit of the search, of one number. -/
def step (m : EReal) (b e : BitVec 32) : BitVec 32 := stepV (s := ⟨0, ![]⟩) (fun _ => m) b (fun _ => e) ix0
/-- The exponent field of one number. -/
def field (m : EReal) : BitVec 32 :=
  step m 1#32 (step m 2#32 (step m 4#32 (step m 8#32 (step m 16#32 (step m 32#32 (step m 64#32 (step m 128#32 0#32)))))))
/-- The exponent of one block's scale. -/
def kexp (m : EReal) : BitVec 32 := exponentV (s := ⟨0, ![]⟩) (fun _ => field m) ix0

theorem stepV_apply {s : Shape} (m : FVec Ideal s .f32) (b : BitVec 32) (e : IVec s 32) (x : s.Idx) :
    stepV m b e x = step (m x) b (e x) := rfl
theorem fieldV_apply {s : Shape} (m : FVec Ideal s .f32) (x : s.Idx) : fieldV m x = field (m x) := by
  unfold fieldV field
  simp only [stepV_apply]
  rfl
theorem expV_apply {s : Shape} (m : FVec Ideal s .f32) (x : s.Idx) : expV m x = kexp (m x) := by
  unfold expV kexp
  rw [← fieldV_apply]
  rfl

theorem exp0 (m : FVec Ideal S1x128 .f32) :
    k0_pay105 (k0_pay103 m (k0_pay101 m k0_pay99 k0_pay100) k0_pay102) k0_pay104 = expV m := rfl
theorem exp1 (a : FVec Ideal S1x128 .f32) :
    k0_pay123 (k0_pay118 a) (k0_pay121 (k0_pay118 a) (k0_pay119 a) (k0_pay120 a) 23#32)
      (k0_pay122 (k0_pay118 a) (k0_pay119 a) (k0_pay120 a) 23#32) 23#32 = expV (k0_pay118 a) := rfl
theorem exp2 (t : FVec Ideal S128x128 .f32) :
    k0_pay139 (k0_pay134 t) (k0_pay137 (k0_pay134 t) (k0_pay135 t) (k0_pay136 t)) (k0_pay138 (k0_pay134 t) (k0_pay135 t) (k0_pay136 t))
      = expV (k0_pay134 t) := rfl
theorem exp3 (t : FVec Ideal S128x128 .f32) :
    k0_pay157 (k0_pay150 t) (k0_pay154 (k0_pay150 t) (k0_pay151 t) (k0_pay152 t) k0_pay153)
      (k0_pay155 (k0_pay150 t) (k0_pay151 t) (k0_pay152 t) k0_pay153) k0_pay156 = expV (k0_pay150 t) := rfl

/-- The power of two of an exponent. -/
def scl (e : BitVec 32) : EReal := Ideal.ofBits .f32 ((e + 127#32) <<< (23#32).toNat)
/-- A number scaled and clipped to the range of the code's type. -/
def clip (v s : EReal) : EReal := min (Ideal.ofBits .f32 0x43E00000#32) (max (Ideal.ofBits .f32 0xC3E00000#32) (v * s))

namespace Tile
variable (T : Tile)
/-- The largest magnitude of a column of the tile. -/
def colA (d : Fin 7168) : EReal := Finset.univ.fold max (Ideal.ofBits .f32 0xFF800000#32) (fun p => FloatOps.absf (F := Ideal) (φ := FTy.f32) (T.t p d))
/-- The largest magnitude of block `n` of a row. -/
def rowA (p : Fin 128) (n : ℕ) : EReal := Finset.univ.fold max (Ideal.ofBits .f32 0xFF800000#32) (fun l => FloatOps.absf (F := Ideal) (φ := FTy.f32) (T.t p (col n l)))
/-- The exponent of a column's scale, and of a row block's. -/
def colE (d : Fin 7168) : BitVec 32 := kexp (T.colA d * Ideal.ofBits .f32 0x3B124925#32)
def rowE (p : Fin 128) (n : ℕ) : BitVec 32 := kexp (T.rowA p n * Ideal.ofBits .f32 0x3B124925#32)
def ccode (p : Fin 128) (d : Fin 7168) : EReal := clip (T.t p d) (scl (0 - T.colE d))
def rcode (p : Fin 128) (d : Fin 7168) : EReal := clip (T.t p d) (scl (0 - T.rowE p (d.val / 128)))
end Tile

end Cert.KernelIdeal.Hand

end
-- ==== Proof.KernelIdealValData.lean ====
/- Hand-written: the tile of every grid point over the arrays, what each result block holds after a point, and the proof data of the launch. -/
module

public import proofs.«01_k».proof.Proof.KernelIdealExp
public import proofs.«01_k».proof.Proof.Gen.KernelIdeal.Frame
public import proofs.«01_k».proof.Proof.Gen.KernelIdeal.Points
public import Idealize.ShloMosaic.Lib.Pipeline.DatRel
public import Idealize.ShloMosaic.Lib.Pipeline.ValueKit
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

theorem lt16 (t : Fin cfg0.N) : t.val < 16 := lt_of_lt_of_eq t.isLt N_0

/-- The point's tile, read off the blocks the pipeline stages. -/
def tile (c : Dev nD) (t : Fin cfg0.N) : Tile where
  Q p d := (show FVec Ideal S1x128x7168 .bf16 from iblk m c 4 t) (ix3 0 p d)
  K p d := (show FVec Ideal S1x128x7168 .bf16 from iblk m c 5 t) (ix3 0 p d)
  V p d := (show FVec Ideal S1x128x7168 .bf16 from iblk m c 6 t) (ix3 0 p d)
  X p d := (show FVec Ideal S1x128x7168 .bf16 from iblk m c 0 t) (ix3 0 p d)
  D p d := (show FVec Ideal S1x128x7168 .bf16 from iblk m c 3 t) (ix3 0 p d)
  Γ d := (show FVec Ideal S1x7168 .f32 from iblk m c 2 t) (ix2 0 d)
  r p := (show FVec Ideal S2x1024 .f32 from iblk m c 1 t)
    (ix2 ⟨t.val / 8, by have := lt16 t; omega⟩ ⟨128 * (t.val % 8) + p.val, by have := lt16 t; have := p.isLt; omega⟩)

/-- Point `n`'s column sums (zero past the grid). -/
def partN (c : Dev nD) (n : ℕ) (d : Fin 7168) : EReal := if h : n < cfg0.N then (tile m c ⟨n, h⟩).part d else 0
/-- Point `n`'s column scale (zero past the grid). -/
def cscaleN (c : Dev nD) (n : ℕ) (d : Fin 7168) : EReal := if h : n < cfg0.N then scl ((tile m c ⟨n, h⟩).colE d) else 0
/-- The column sums of the points up to `n`, added. -/
def sumN (c : Dev nD) (n : ℕ) (d : Fin 7168) : EReal := ∑ u ∈ Finset.range (n + 1), partN m c u d

theorem partN_val (c : Dev nD) (t : Fin cfg0.N) (d : Fin 7168) : partN m c t.val d = (tile m c t).part d := by
  unfold partN; rw [dif_pos t.isLt]
theorem cscaleN_val (c : Dev nD) (t : Fin cfg0.N) (d : Fin 7168) : cscaleN m c t.val d = scl ((tile m c t).colE d) := by
  unfold cscaleN; rw [dif_pos t.isLt]

def R7 (c : Dev nD) (t : Fin cfg0.N) (X : FVec Ideal S1x128x7168 .bf16) : Prop := ∀ p d, X (ix3 0 p d) = (tile m c t).t p d
def R8 (c : Dev nD) (t : Fin cfg0.N) (X : FVec Ideal S1x7168 .f32) : Prop := ∀ d, X (ix2 0 d) = sumN m c t.val d
def R9 (c : Dev nD) (t : Fin cfg0.N) (X : FVec Ideal S1x8x7168 .f32) : Prop :=
  ∀ (s : Fin 8) d, s.val ≤ t.val % 8 → X (ix3 0 s d) = partN m c (8 * (t.val / 8) + s.val) d
def R10 (c : Dev nD) (t : Fin cfg0.N) (X : FVec Ideal S1x128x7168 .fp8e4m3) : Prop := ∀ p d, X (ix3 0 p d) = (tile m c t).rcode p d
def R11 (c : Dev nD) (t : Fin cfg0.N) (X : FVec Ideal S1x128x56 .f32) : Prop :=
  ∀ (p : Fin 128) (n : Fin 56), X (ix3 0 p n) = scl ((tile m c t).rowE p n.val)
def R12 (c : Dev nD) (t : Fin cfg0.N) (X : FVec Ideal S1x128x7168 .fp8e4m3) : Prop := ∀ p d, X (ix3 0 p d) = (tile m c t).ccode p d
def R13 (c : Dev nD) (t : Fin cfg0.N) (X : FVec Ideal S1x8x7168 .f32) : Prop :=
  ∀ (s : Fin 8) d, s.val ≤ t.val % 8 → X (ix3 0 s d) = cscaleN m c (8 * (t.val / 8) + s.val) d

/-- What a result block holds after a point's body. -/
def Rl (c : Dev nD) (w : Fin cfg0.W) (t : Fin cfg0.N) : ((cfg0.win w).block.Idx → Elt Ideal (cfg0.win w).elt) → Prop :=
  match w with
  | ⟨7, _⟩ => R7 m c t
  | ⟨8, _⟩ => R8 m c t
  | ⟨9, _⟩ => R9 m c t
  | ⟨10, _⟩ => R10 m c t
  | ⟨11, _⟩ => R11 m c t
  | ⟨12, _⟩ => R12 m c t
  | ⟨13, _⟩ => R13 m c t
  | _ => fun _ => True

/-- The seven results are held to `Rl`. -/
def held0 : Fin 14 → Bool := fun w => decide (7 ≤ w.val)

/-- The indicator's rows: column `d`'s entry of row `x` is one where `x` is the column's block. -/
def HotAt (X : FVec Ideal S128x7168 .bf16) : Prop :=
  ∀ (x : Fin 128) (d : Fin 7168), X (ix2 x d) = if x.val = d.val / 128 then (1 : EReal) else 0

/-- The scratch between points: the first point leaves the indicator in the last buffer, and it stays. -/
def PhiV (c : Dev nD) (n : ℕ) : sProp 𝕄 :=
  iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)
      ∗ (∃ d, ⌜n ≠ 0 → HotAt d⌝ ∗ owns (c : Thread nD τ) (Memref.whole cc0_scratch3) fullShare d)) ∗ ∃ r, prngReg c r)

/-- The proof data: the arrays as the region finds them, the inputs' blocks left in place, the results left to `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ t := PhiV c t.val
  q _ := fullShare
  owed _ := 0

theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = PhiV c t.val := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch and the generator register, buffer by buffer. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA; rw [scopedRest0_eq]; simp only [owns_whole]; try rfl

theorem Phi_in (c : Dev nD) : (Pipeline.ΦA spec0 c : sProp 𝕄) ⊢ (dats m 0 c).Φ 0 := by
  rw [Phi_eq, PhiA0_eq]; unfold PhiV
  iintro ⟨⟨S0, S1, S2, ⟨%d, S3⟩⟩, Hg⟩
  isplitr [Hg]; swap; · iexact Hg
  isplitl [S0]; · iexact S0
  isplitl [S1]; · iexact S1
  isplitl [S2]; · iexact S2
  iexists d; isplitr; swap; · iexact S3
  ipureintro; intro h; exact absurd rfl h

theorem Phi_out (c : Dev nD) : (dats m 0 c).Φ (Fin.last cfg0.N) ⊢ (Pipeline.ΦA spec0 c : sProp 𝕄) := by
  rw [Phi_eq, PhiA0_eq]; unfold PhiV
  iintro ⟨⟨S0, S1, S2, ⟨%d, -, S3⟩⟩, Hg⟩
  isplitr [Hg]; swap; · iexact Hg
  isplitl [S0]; · iexact S0
  isplitl [S1]; · iexact S1
  isplitl [S2]; · iexact S2
  iexists d; iexact S3

/-- The proof data as relations. -/
abbrev rdat (c : Dev nD) : Pipeline.RDat τ (Elt Ideal) Unit ℕ (UR sig nD τ) ℕ cfg0 c := (dats m 0 c).toRRel held0 (Rl m c)

theorem nofetch : ∀ t : Fin cfg0.N, (cfg0.win 8).fetch t = false ∧ (cfg0.win 9).fetch t = false ∧ (cfg0.win 13).fetch t = false :=
  (by decide +kernel : ∀ t : Fin grid0.N, win0_8.fetch t = false ∧ win0_9.fetch t = false ∧ win0_13.fetch t = false)

/-- What the running total holds when a later point starts. -/
theorem found8 (c : Dev nD) (t : Fin cfg0.N) (h0 : t.val ≠ 0) (X : FVec Ideal S1x7168 .f32) (h : (rdat m c).Finds 8 t X) (d : Fin 7168) :
    X (ix2 0 d) + (tile m c t).part d = sumN m c t.val d := by
  have ht := lt16 t
  rcases (Pipeline.RDat.finds_of_pos (rdat m c) (nofetch t).1 h0 X).mp h with hf | hl
  · have := (flush0_8 _).mp hf; simp only at this; omega
  · have hr : R8 m c ⟨t.val - 1, _⟩ X := Pipeline.Dat.toRRel_leaves (dats m 0 c) (w := 8) rfl hl
    rw [hr d]; unfold sumN
    rw [← partN_val m c t d, show t.val - 1 + 1 = t.val by omega, Finset.sum_range_succ]

/-- The rows of result window 9's block the earlier points of the sequence left. -/
theorem found9 (c : Dev nD) (t : Fin cfg0.N) (X : FVec Ideal S1x8x7168 .f32) (h : (rdat m c).Finds 9 t X) (s : Fin 8) (d : Fin 7168)
    (hs : s.val < t.val % 8) : X (ix3 0 s d) = partN m c (8 * (t.val / 8) + s.val) d := by
  have ht := lt16 t
  rcases (Pipeline.RDat.finds_of_pos (rdat m c) (nofetch t).2.1 (by omega) X).mp h with hf | hl
  · have := (flush0_9 _).mp hf; simp only at this; omega
  · have hr : R9 m c ⟨t.val - 1, _⟩ X := Pipeline.Dat.toRRel_leaves (dats m 0 c) (w := 9) rfl hl
    rw [hr s d (by show _ ≤ (t.val - 1) % 8; omega)]
    show partN m c (8 * ((t.val - 1) / 8) + s.val) d = _
    rw [show (t.val - 1) / 8 = t.val / 8 by omega]

/-- The rows of result window 13's block the earlier points of the sequence left. -/
theorem found13 (c : Dev nD) (t : Fin cfg0.N) (X : FVec Ideal S1x8x7168 .f32) (h : (rdat m c).Finds 13 t X) (s : Fin 8) (d : Fin 7168)
    (hs : s.val < t.val % 8) : X (ix3 0 s d) = cscaleN m c (8 * (t.val / 8) + s.val) d := by
  have ht := lt16 t
  rcases (Pipeline.RDat.finds_of_pos (rdat m c) (nofetch t).2.2 (by omega) X).mp h with hf | hl
  · have := (flush0_13 _).mp hf; simp only at this; omega
  · have hr : R13 m c ⟨t.val - 1, _⟩ X := Pipeline.Dat.toRRel_leaves (dats m 0 c) (w := 13) rfl hl
    rw [hr s d (by show _ ≤ (t.val - 1) % 8; omega)]
    show cscaleN m c (8 * ((t.val - 1) / 8) + s.val) d = _
    rw [show (t.val - 1) / 8 = t.val / 8 by omega]

end Cert.KernelIdeal.Hand

end
-- ==== Proof.Spec.lean ====
/- Hand-written: the mathematics of the seven results, at coordinates, over the extended reals. -/
module

public import Idealize.ShloMosaic.PureOps.Ideal
@[expose] public section

set_option maxRecDepth 16384

noncomputable section

namespace Cert.Spec

open Idealize.ShloMosaic

/-- The exponent the logarithm names: zero below the smallest normal number and at infinity. -/
def rexp (m : EReal) : EReal :=
  if m < (((2 : ℝ) ^ (-126 : ℤ) : ℝ) : EReal) ∨ m = ⊤ then 0
  else min (Ideal.liftRound Int.floor (Ideal.div (Ideal.log m) (Ideal.log ((2 : ℝ) : EReal))) + 1) ((120 : ℝ) : EReal)
/-- The scale of a block whose largest magnitude is `a`, and its reciprocal. -/
def scale (a : EReal) : EReal := Ideal.pow ((2 : ℝ) : EReal) (rexp (a * Ideal.ofBits .f32 0x3B124925#32))
def invScale (a : EReal) : EReal := Ideal.pow ((2 : ℝ) : EReal) (-rexp (a * Ideal.ofBits .f32 0x3B124925#32))
/-- A number scaled and clipped to the range of the code's type. -/
def clip (v s : EReal) : EReal := min (Ideal.ofBits .f32 0x43E00000#32) (max (Ideal.ofBits .f32 0xC3E00000#32) (v * s))

/-- The arguments at coordinates. -/
structure Args where
  x : Fin 2 → Fin 1024 → Fin 7168 → EReal
  q : Fin 2 → Fin 1024 → Fin 7168 → EReal
  k : Fin 2 → Fin 1024 → Fin 7168 → EReal
  v : Fin 2 → Fin 1024 → Fin 7168 → EReal
  d : Fin 2 → Fin 1024 → Fin 7168 → EReal
  r : Fin 2 → Fin 1024 → EReal
  γ : Fin 7168 → EReal

/-- Row `p` of the group `i` of 128 rows. -/
def row (i : Fin 8) (p : Fin 128) : Fin 1024 := ⟨128 * i.val + p.val, by have := i.isLt; have := p.isLt; omega⟩
/-- Column `l` of the group `n` of 128 columns. -/
def lane (n : Fin 56) (l : Fin 128) : Fin 7168 := ⟨128 * n.val + l.val, by have := n.isLt; have := l.isLt; omega⟩
/-- The group a column lies in. -/
def grp (e : Fin 7168) : Fin 56 := ⟨e.val / 128, by have := e.isLt; omega⟩
/-- The group a row lies in. -/
def rgrp (s : Fin 1024) : Fin 8 := ⟨s.val / 128, by have := s.isLt; omega⟩

namespace Args
variable (A : Args)
def dN (b : Fin 2) (s : Fin 1024) (e : Fin 7168) : EReal := (A.q b s e + A.k b s e) + A.v b s e
def xh (b : Fin 2) (s : Fin 1024) (e : Fin 7168) : EReal := A.x b s e * A.r b s
def dxn (b : Fin 2) (s : Fin 1024) (e : Fin 7168) : EReal := A.dN b s e * A.γ e
def c (b : Fin 2) (s : Fin 1024) : EReal := Ideal.div (∑ e, A.dxn b s e * A.xh b s e) ((7168 : ℝ) : EReal)
def t (b : Fin 2) (s : Fin 1024) (e : Fin 7168) : EReal := A.r b s * (A.dxn b s e - A.xh b s e * A.c b s) + A.d b s e
def part (b : Fin 2) (i : Fin 8) (e : Fin 7168) : EReal := ∑ p, A.dN b (row i p) e * A.xh b (row i p) e
def total (e : Fin 7168) : EReal := ∑ b, ∑ i, A.part b i e
def rmax (b : Fin 2) (s : Fin 1024) (n : Fin 56) : EReal :=
  Finset.univ.fold max (Ideal.ofBits .f32 0xFF800000#32) fun l => max (A.t b s (lane n l)) (-A.t b s (lane n l))
def cmax (b : Fin 2) (i : Fin 8) (e : Fin 7168) : EReal :=
  Finset.univ.fold max (Ideal.ofBits .f32 0xFF800000#32) fun p => max (A.t b (row i p) e) (-A.t b (row i p) e)
def rscale (b : Fin 2) (s : Fin 1024) (n : Fin 56) : EReal := scale (A.rmax b s n)
def cscale (b : Fin 2) (i : Fin 8) (e : Fin 7168) : EReal := scale (A.cmax b i e)
def rcode (b : Fin 2) (s : Fin 1024) (e : Fin 7168) : EReal := clip (A.t b s e) (invScale (A.rmax b s (grp e)))
def ccode (b : Fin 2) (s : Fin 1024) (e : Fin 7168) : EReal := clip (A.t b s e) (invScale (A.cmax b (rgrp s) e))
end Args

end Cert.Spec

end
-- ==== Proof.KernelIdealExpVal.lean ====
/- Hand-written: the search for the exponent field finds the exponent the logarithm names. -/
module

public import proofs.«01_k».proof.Proof.KernelIdealExp
public import proofs.«01_k».proof.Proof.Spec
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

open Cert.Spec (rexp)

/-- The float whose exponent field is `k` and whose significand is zero. -/
def thr (k : ℕ) : EReal := Ideal.ofBits .f32 (BitVec.ofNat 32 k <<< (23#32).toNat)

theorem thr_bits : ∀ k : Fin 256, ((BitVec.ofNat 32 k.val <<< (23#32).toNat).extractLsb' (8 + 23) 1 == 1#1) = false
    ∧ ((BitVec.ofNat 32 k.val <<< (23#32).toNat).extractLsb' 23 8).toNat = k.val
    ∧ ((BitVec.ofNat 32 k.val <<< (23#32).toNat).extractLsb' 0 23).toNat = 0 := by decide +kernel

theorem thr_zero : thr 0 = 0 := by
  obtain ⟨h1, h2, h3⟩ := thr_bits 0
  simp only [thr, Ideal.ofBits, Ideal.ieee]
  simp only [Fin.val_zero] at h1 h2 h3
  rw [h1, h2, h3]; simp
theorem thr_top : thr 255 = ⊤ := by
  obtain ⟨h1, h2, h3⟩ := thr_bits 255
  simp only [show (255 : Fin 256).val = 255 from rfl] at h1 h2 h3
  simp only [thr, Ideal.ofBits, Ideal.ieee]
  rw [h1, h2, h3]; simp
theorem thr_mid {k : ℕ} (h0 : 0 < k) (h : k < 255) : thr k = (((2 : ℝ) ^ ((k : ℤ) - 127) : ℝ) : EReal) := by
  obtain ⟨h1, h2, h3⟩ := thr_bits ⟨k, by omega⟩
  simp only at h1 h2 h3
  show Ideal.ieee 8 23 (BitVec.ofNat 32 k <<< (23#32).toNat) = _
  unfold Ideal.ieee
  simp only
  rw [h1, h2, h3]
  rw [if_neg (show ¬ (k = 2 ^ 8 - 1) by omega), if_neg (show ¬ (k = 0) by omega)]
  refine congrArg (fun z : ℝ => (z : EReal)) ?_
  rw [show ((k : ℤ) - (2 ^ (8 - 1) - 1) - ((23 : ℕ) : ℤ)) = ((k : ℤ) - 127) + (-23 : ℤ) by norm_num; ring, zpow_add₀ (by norm_num)]
  generalize (2 : ℝ) ^ ((k : ℤ) - 127) = z
  rw [if_neg (by decide)]
  rw [show (((2 ^ 23 + 0 : ℕ) : ℝ)) = (2 : ℝ) ^ (23 : ℤ) by norm_num]
  rw [one_mul, mul_comm, mul_assoc, ← zpow_add₀ (by norm_num)]
  norm_num

/-- What one bit of the search tries. -/
def trial (b e : BitVec 32) : BitVec 32 := Scalar.select (IntOp.cmpi .sgt (e + b) 246#32) 255#32 (e + b)
/-- One bit of the search for a known field. -/
def stepE (E : ℕ) (b e : BitVec 32) : BitVec 32 := if (trial b e).toNat ≤ E then trial b e else e

theorem trial_range : ∀ (b : Fin 129) (e : Fin 256), (trial (BitVec.ofNat 32 b.val) (BitVec.ofNat 32 e.val)).toNat ≤ 246
    ∨ (trial (BitVec.ofNat 32 b.val) (BitVec.ofNat 32 e.val)).toNat = 255 := by decide +kernel

theorem step_def (m : EReal) (b e : BitVec 32) :
    step m b e = Scalar.select (Ideal.cmp .oge m (Ideal.ofBits .f32 (trial b e <<< (23#32).toNat))) (trial b e) e := rfl

/-- The field of `m` is `E`: exactly the floats of smaller fields are at most `m`. -/
def FieldIs (m : EReal) (E : ℕ) : Prop := ∀ k : ℕ, k ≤ 246 ∨ k = 255 → (thr k ≤ m ↔ k ≤ E)

theorem step_eq {m : EReal} {E : ℕ} (h : FieldIs m E) {b e : BitVec 32} (hb : b.toNat ≤ 128) (he : e.toNat ≤ 255) :
    step m b e = stepE E b e := by
  have hr := trial_range ⟨b.toNat, by omega⟩ ⟨e.toNat, by omega⟩
  simp only [BitVec.ofNat_toNat, BitVec.setWidth_eq] at hr
  have ht : thr (trial b e).toNat = Ideal.ofBits .f32 (trial b e <<< (23#32).toNat) := by
    unfold thr; rw [BitVec.ofNat_toNat, BitVec.setWidth_eq]
  have hk := h _ hr
  rw [ht] at hk
  rw [step_def]; unfold stepE
  by_cases hc : (trial b e).toNat ≤ E
  · rw [if_pos hc]; simp only [Scalar.select, Ideal.cmp, decide_eq_true (hk.mpr hc)]; rfl
  · rw [if_neg hc]; simp only [Scalar.select, Ideal.cmp, decide_eq_false (fun h' => hc (hk.mp h'))]; rfl

theorem stepE_le {E : ℕ} {b e : BitVec 32} (hb : b.toNat ≤ 128) (he : e.toNat ≤ 255) : (stepE E b e).toNat ≤ 255 := by
  have hr := trial_range ⟨b.toNat, by omega⟩ ⟨e.toNat, by omega⟩
  simp only [BitVec.ofNat_toNat, BitVec.setWidth_eq] at hr
  unfold stepE; split
  · omega
  · exact he

theorem search : ∀ E : Fin 256, E.val ≤ 246 ∨ E.val = 255 →
    stepE E.val 1#32 (stepE E.val 2#32 (stepE E.val 4#32 (stepE E.val 8#32 (stepE E.val 16#32 (stepE E.val 32#32 (stepE E.val 64#32 (stepE E.val 128#32 0#32)))))))
      = BitVec.ofNat 32 E.val := by decide +kernel

theorem field_eq {m : EReal} {E : ℕ} (h : FieldIs m E) (hE : E ≤ 246 ∨ E = 255) : field m = BitVec.ofNat 32 E := by
  unfold field
  have e0 : (0#32).toNat ≤ 255 := by decide
  have e1 := stepE_le (E := E) (b := 128#32) (by decide) e0
  have e2 := stepE_le (E := E) (b := 64#32) (by decide) e1
  have e3 := stepE_le (E := E) (b := 32#32) (by decide) e2
  have e4 := stepE_le (E := E) (b := 16#32) (by decide) e3
  have e5 := stepE_le (E := E) (b := 8#32) (by decide) e4
  have e6 := stepE_le (E := E) (b := 4#32) (by decide) e5
  have e7 := stepE_le (E := E) (b := 2#32) (by decide) e6
  rw [step_eq h (b := 128#32) (by decide) e0, step_eq h (b := 64#32) (by decide) e1, step_eq h (b := 32#32) (by decide) e2,
    step_eq h (b := 16#32) (by decide) e3, step_eq h (b := 8#32) (by decide) e4, step_eq h (b := 4#32) (by decide) e5,
    step_eq h (b := 2#32) (by decide) e6, step_eq h (b := 1#32) (by decide) e7]
  exact search ⟨E, by omega⟩ hE

/-- The exponent of a field. -/
def expOf (f : BitVec 32) : BitVec 32 := exponentV (s := ⟨0, ![]⟩) (fun _ => f) ix0
theorem kexp_def (m : EReal) : kexp m = expOf (field m) := rfl

theorem expOf_up : ∀ E : Fin 256, E.val ≤ 246 ∨ E.val = 255 →
    expOf (BitVec.ofNat 32 E.val) + 127#32 = BitVec.ofNat 32 (if E.val = 0 ∨ E.val = 255 then 127 else E.val + 1) := by decide +kernel
theorem expOf_down : ∀ E : Fin 256, E.val ≤ 246 ∨ E.val = 255 →
    (0 - expOf (BitVec.ofNat 32 E.val)) + 127#32 = BitVec.ofNat 32 (if E.val = 0 ∨ E.val = 255 then 127 else 253 - E.val) := by decide +kernel

theorem scl_up {m : EReal} {E : ℕ} (h : FieldIs m E) (hE : E ≤ 246 ∨ E = 255) : scl (kexp m) = thr (if E = 0 ∨ E = 255 then 127 else E + 1) := by
  unfold scl thr
  rw [kexp_def, field_eq h hE]
  exact congrArg (fun w : BitVec 32 => Ideal.ofBits .f32 (w <<< (23#32).toNat)) (expOf_up ⟨E, by omega⟩ hE)
theorem scl_down {m : EReal} {E : ℕ} (h : FieldIs m E) (hE : E ≤ 246 ∨ E = 255) :
    scl (0 - kexp m) = thr (if E = 0 ∨ E = 255 then 127 else 253 - E) := by
  unfold scl thr
  rw [kexp_def, field_eq h hE]
  exact congrArg (fun w : BitVec 32 => Ideal.ofBits .f32 (w <<< (23#32).toNat)) (expOf_down ⟨E, by omega⟩ hE)

theorem thr_127 : thr 127 = 1 := by rw [thr_mid (by decide) (by decide)]; norm_num

theorem pow_zero_two : Ideal.pow ((2 : ℝ) : EReal) 0 = 1 := by
  rw [show (0 : EReal) = ((0 : ℝ) : EReal) from rfl, Ideal.pow_coe_coe]; simp

theorem pow_int (z : ℤ) : Ideal.pow ((2 : ℝ) : EReal) (((z : ℤ) : ℝ) : EReal) = (((2 : ℝ) ^ z : ℝ) : EReal) := by
  rw [Ideal.pow_coe_coe]
  congr 1
  exact Real.rpow_intCast 2 z

/-- Below the smallest normal number the field is zero. -/
theorem field_small {m : EReal} (h0 : 0 ≤ m) (h : m < (((2 : ℝ) ^ (-126 : ℤ) : ℝ) : EReal)) : FieldIs m 0 := by
  intro k hk
  rcases Nat.eq_zero_or_pos k with rfl | hp
  · simp only [thr_zero, h0, le_refl]
  · refine iff_of_false (fun hle => ?_) (by omega)
    rcases hk with hk | rfl
    · rw [thr_mid hp (by omega)] at hle
      have := lt_of_le_of_lt hle h
      rw [EReal.coe_lt_coe_iff] at this
      exact absurd this (not_lt.mpr (zpow_le_zpow_right₀ (by norm_num) (by omega)))
    · rw [thr_top] at hle
      exact absurd (lt_of_le_of_lt hle h) not_top_lt
theorem field_inf : FieldIs ⊤ 255 := by
  intro k hk
  exact iff_of_true le_top (by omega)

/-- A normal number's field: one more than its logarithm's floor, up to the bias; at most 246. -/
theorem field_mid {x : ℝ} (h : (2 : ℝ) ^ (-126 : ℤ) ≤ x) :
    FieldIs (x : EReal) (min (⌊Real.log x / Real.log 2⌋ + 127) 246).toNat ∧ -126 ≤ ⌊Real.log x / Real.log 2⌋ := by
  have hx : 0 < x := lt_of_lt_of_le (by positivity) h
  have hl : 0 < Real.log 2 := Real.log_pos (by norm_num)
  have key : ∀ z : ℤ, (2 : ℝ) ^ z ≤ x ↔ z ≤ ⌊Real.log x / Real.log 2⌋ := by
    intro z
    rw [Int.le_floor, le_div_iff₀ hl, ← Real.log_zpow, Real.log_le_log_iff (by positivity) hx]
  have hj : -126 ≤ ⌊Real.log x / Real.log 2⌋ := (key _).mp h
  refine ⟨fun k hk => ?_, hj⟩
  rcases Nat.eq_zero_or_pos k with rfl | hp
  · rw [thr_zero]; exact iff_of_true (by exact_mod_cast hx.le) (Nat.zero_le _)
  rcases hk with hk | rfl
  · rw [thr_mid hp (by omega), EReal.coe_le_coe_iff, key]
    omega
  · rw [thr_top]
    exact iff_of_false (fun hle => absurd (top_le_iff.mp hle) (EReal.coe_ne_top x)) (by omega)

theorem scales {m : EReal} (h0 : 0 ≤ m) :
    scl (kexp m) = Ideal.pow ((2 : ℝ) : EReal) (rexp m) ∧ scl (0 - kexp m) = Ideal.pow ((2 : ℝ) : EReal) (-rexp m) := by
  by_cases hs : m < (((2 : ℝ) ^ (-126 : ℤ) : ℝ) : EReal)
  · have hf := field_small h0 hs
    rw [scl_up hf (by omega), scl_down hf (by omega)]
    unfold rexp
    rw [if_pos (Or.inl hs), if_pos (Or.inl rfl), if_pos (Or.inl rfl), neg_zero, thr_127, pow_zero_two]
    exact ⟨rfl, rfl⟩
  by_cases ht : m = ⊤
  · subst ht
    rw [scl_up field_inf (by omega), scl_down field_inf (by omega)]
    unfold rexp
    rw [if_pos (Or.inr rfl), if_pos (Or.inr rfl), if_pos (Or.inr rfl), neg_zero, thr_127, pow_zero_two]
    exact ⟨rfl, rfl⟩
  have hb : m ≠ ⊥ := fun e => by subst e; exact absurd h0 (not_le.mpr EReal.bot_lt_zero)
  lift m to ℝ using ⟨ht, hb⟩
  rw [not_lt, EReal.coe_le_coe_iff] at hs
  obtain ⟨hf, hj⟩ := field_mid hs
  have hx : 0 < m := lt_of_lt_of_le (by positivity) hs
  have hl : 0 < Real.log 2 := Real.log_pos (by norm_num)
  have hE : (min (⌊Real.log m / Real.log 2⌋ + 127) 246).toNat ≤ 246 := by omega
  have hE0 : (min (⌊Real.log m / Real.log 2⌋ + 127) 246).toNat ≠ 0 := by omega
  have hE1 : ¬ ((min (⌊Real.log m / Real.log 2⌋ + 127) 246).toNat = 0 ∨ (min (⌊Real.log m / Real.log 2⌋ + 127) 246).toNat = 255) := by omega
  rw [scl_up hf (Or.inl hE), scl_down hf (Or.inl hE), if_neg hE1, if_neg hE1, thr_mid (by omega) (by omega), thr_mid (by omega) (by omega)]
  have hr : rexp (m : EReal) = (((min (⌊Real.log m / Real.log 2⌋ + 1) 120 : ℤ) : ℝ) : EReal) := by
    unfold rexp
    rw [if_neg (by rw [EReal.coe_lt_coe_iff]; rintro (h | h); · exact absurd hs (not_le.mpr h)
                   · exact ht h)]
    rw [Ideal.log_coe, Ideal.log_coe, if_neg (not_le.mpr hx), if_neg (by norm_num), Ideal.div_coe hl.ne']
    rw [← EReal.coe_mul, mul_one_div]
    show min ((((⌊Real.log m / Real.log 2⌋ : ℤ) : ℝ) : EReal) + ((1 : ℝ) : EReal)) _ = _
    rw [← EReal.coe_add, ← EReal.coe_strictMono.monotone.map_min]
    push_cast; rfl
  rw [hr, ← EReal.coe_neg, ← Int.cast_neg, pow_int, pow_int]
  constructor
  · congr 2; omega
  · congr 2; omega

end Cert.KernelIdeal.Hand

end
-- ==== Proof.SpecArgs.lean ====
/- Hand-written: the arguments of the mathematics, read off their arrays. -/
module

public import proofs.«01_k».proof.Proof.Spec
public import Idealize.ShloMosaic.Lib.Pointwise
@[expose] public section

set_option maxRecDepth 16384

noncomputable section

namespace Cert.Spec

open Idealize.ShloMosaic

/-- The arguments read off their arrays. -/
def Args.of (x : (⟨3, ![2, 1024, 7168]⟩ : Shape).Idx → EReal) (r : (⟨2, ![2, 1024]⟩ : Shape).Idx → EReal) (γ : (⟨1, ![7168]⟩ : Shape).Idx → EReal)
    (d q k v : (⟨3, ![2, 1024, 7168]⟩ : Shape).Idx → EReal) : Args where
  x b s e := x (ix3 b s e)
  q b s e := q (ix3 b s e)
  k b s e := k (ix3 b s e)
  v b s e := v (ix3 b s e)
  d b s e := d (ix3 b s e)
  r b s := r (ix2 b s)
  γ e := γ (ix1 e)

end Cert.Spec

end
-- ==== Proof.KernelIdealTileSpec.lean ====
/- Hand-written: a point of the grid computes its tile of the mathematics. -/
module

public import proofs.«01_k».proof.Proof.KernelIdealValData
public import proofs.«01_k».proof.Proof.KernelIdealExpVal
public import proofs.«01_k».proof.Proof.SpecArgs
public import Idealize.ShloMosaic.Lib.Pipeline.ValueKit
public import Idealize.ShloMosaic.Lib.Claim
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

open Cert.Spec (Args row lane grp rgrp rexp)

variable (m : (ℓ : Loc nD τ sig) → Buf (Elt Ideal) ℓ)

/-- The arguments as the kernel is launched with them. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The batch and the group of rows of a point. -/
def ptB (t : Fin cfg0.N) : Fin 2 := ⟨t.val / 8, by have := lt16 t; omega⟩
def ptI (t : Fin cfg0.N) : Fin 8 := ⟨t.val % 8, by omega⟩

theorem idx : ∀ t : Fin cfg0.N, win0_0.index t = ![t.val / 8, t.val % 8, 0] ∧ win0_1.index t = ![0, 0] ∧ win0_2.index t = ![0, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0] ∧ win0_8.index t = ![0, 0]
    ∧ win0_9.index t = ![t.val / 8, 0, 0] ∧ win0_10.index t = ![t.val / 8, t.val % 8, 0] ∧ win0_11.index t = ![t.val / 8, t.val % 8, 0]
    ∧ win0_12.index t = ![t.val / 8, t.val % 8, 0] ∧ win0_13.index t = ![t.val / 8, 0, 0] :=
  (by decide +kernel : ∀ t : Fin grid0.N, _)

theorem blk0 (c : Dev nD) (t : Fin cfg0.N) (p : Fin 128) (d : Fin 7168) :
    (show FVec Ideal S1x128x7168 .bf16 from iblk m c 0 t) (ix3 0 p d) = (args m c).x (ptB t) (row (ptI t) p) d := by
  unfold args Args.of ptB ptI row
  dsimp only
  blk_ext [iblk, V, idx t]

theorem blk3 (c : Dev nD) (t : Fin cfg0.N) (p : Fin 128) (d : Fin 7168) :
    (show FVec Ideal S1x128x7168 .bf16 from iblk m c 3 t) (ix3 0 p d) = (args m c).d (ptB t) (row (ptI t) p) d := by
  unfold args Args.of ptB ptI row
  dsimp only
  blk_ext [iblk, V, idx t]

theorem blk4 (c : Dev nD) (t : Fin cfg0.N) (p : Fin 128) (d : Fin 7168) :
    (show FVec Ideal S1x128x7168 .bf16 from iblk m c 4 t) (ix3 0 p d) = (args m c).q (ptB t) (row (ptI t) p) d := by
  unfold args Args.of ptB ptI row
  dsimp only
  blk_ext [iblk, V, idx t]

theorem blk5 (c : Dev nD) (t : Fin cfg0.N) (p : Fin 128) (d : Fin 7168) :
    (show FVec Ideal S1x128x7168 .bf16 from iblk m c 5 t) (ix3 0 p d) = (args m c).k (ptB t) (row (ptI t) p) d := by
  unfold args Args.of ptB ptI row
  dsimp only
  blk_ext [iblk, V, idx t]

theorem blk6 (c : Dev nD) (t : Fin cfg0.N) (p : Fin 128) (d : Fin 7168) :
    (show FVec Ideal S1x128x7168 .bf16 from iblk m c 6 t) (ix3 0 p d) = (args m c).v (ptB t) (row (ptI t) p) d := by
  unfold args Args.of ptB ptI row
  dsimp only
  blk_ext [iblk, V, idx t]

theorem blk1 (c : Dev nD) (t : Fin cfg0.N) (b : Fin 2) (s : Fin 1024) :
    (show FVec Ideal S2x1024 .f32 from iblk m c 1 t) (ix2 b s) = (args m c).r b s := by
  unfold args Args.of
  dsimp only
  blk_ext [iblk, V, idx t]

theorem blk2 (c : Dev nD) (t : Fin cfg0.N) (d : Fin 7168) :
    (show FVec Ideal S1x7168 .f32 from iblk m c 2 t) (ix2 0 d) = (args m c).γ d := by
  unfold args Args.of
  dsimp only
  blk_simp [iblk, idx t]
  entry_read
  pointwise
  blk_ext [idx t]

/-- The reciprocal of the row length. -/
theorem inv_d : (Named.named (F := Ideal) (φ := FTy.f32) Cert.KernelIdeal.κ "inv_d" 0x39124925#32 : EReal) = ((1 / 7168 : ℝ) : EReal) :=
  IdealRules.named_const.ideal_named_scalar _ _ _ _ rfl

/-- A sum over the columns, by groups of 128 lanes. -/
theorem sum_lanes (f : Fin 7168 → EReal) : ∑ l : Fin 128, ∑ j ∈ Finset.range 56, f (col j l) = ∑ e, f e := by
  rw [Finset.sum_comm, Finset.sum_range]
  rw [← (finProdFinEquiv (m := 56) (n := 128)).sum_comp (fun e : Fin (56 * 128) => f e), Fintype.sum_prod_type]
  refine Finset.sum_congr rfl fun j _ => Finset.sum_congr rfl fun l _ => congrArg f ?_
  refine col_eq ?_
  show l.val + 128 * j.val = _
  omega

section
variable (c : Dev nD) (t : Fin cfg0.N)

theorem tile_g (p : Fin 128) (d : Fin 7168) :
    (tile m c t).g p d = (args m c).dN (ptB t) (row (ptI t) p) d * (args m c).r (ptB t) (row (ptI t) p) := by
  show ((_ + _) + _) * _ = ((_ + _) + _) * _
  rw [← blk4 m c t, ← blk5 m c t, ← blk6 m c t, ← blk1 m c t]
  rfl
theorem tile_y (p : Fin 128) (d : Fin 7168) :
    (tile m c t).y p d = (args m c).dN (ptB t) (row (ptI t) p) d * (args m c).xh (ptB t) (row (ptI t) p) d := by
  show (tile m c t).g p d * (show FVec Ideal S1x128x7168 .bf16 from iblk m c 0 t) (ix3 0 p d) = _ * (_ * _)
  rw [tile_g, blk0, mul_assoc, mul_comm ((args m c).r _ _)]
theorem tile_part (d : Fin 7168) : (tile m c t).part d = (args m c).part (ptB t) (ptI t) d := by
  unfold Tile.part Args.part
  exact Finset.sum_congr rfl fun p _ => tile_y m c t p d
theorem tile_c (p : Fin 128) : (tile m c t).c p = (args m c).c (ptB t) (row (ptI t) p) := by
  unfold Tile.c Tile.acc Tile.term Args.c
  rw [sum_lanes (fun e => (tile m c t).y p e * (tile m c t).Γ e), inv_d, Ideal.div_coe (by norm_num)]
  refine congrArg (· * _) (Finset.sum_congr rfl fun e _ => ?_)
  rw [tile_y, show (tile m c t).Γ e = (args m c).γ e from blk2 m c t e]
  unfold Args.dxn
  ac_rfl
/-- The sum a point quantises, where the row's factor is a nonnegative real. -/
theorem tile_t (p : Fin 128) (d : Fin 7168) (h0 : 0 ≤ (args m c).r (ptB t) (row (ptI t) p)) (h1 : (args m c).r (ptB t) (row (ptI t) p) ≠ ⊤) :
    (tile m c t).t p d = (args m c).t (ptB t) (row (ptI t) p) d := by
  unfold Tile.t Tile.xk Args.t
  rw [tile_g, tile_c, show (tile m c t).Γ d = (args m c).γ d from blk2 m c t d, show (tile m c t).X p d = _ from blk0 m c t p d,
    show (tile m c t).D p d = _ from blk3 m c t p d, show (tile m c t).r p = _ from blk1 m c t _ _]
  show (_ - _ * ((args m c).r (ptB t) (row (ptI t) p) * ((args m c).r (ptB t) (row (ptI t) p) * _))) + _ = _
  generalize hr : (args m c).r (ptB t) (row (ptI t) p) = r at *
  unfold Args.dxn Args.xh
  rw [hr]
  generalize (args m c).c (ptB t) (row (ptI t) p) = cc
  rw [sub_eq_add_neg, sub_eq_add_neg, EReal.left_distrib_of_nonneg_of_ne_top h0 h1, mul_neg]
  refine congrArg₂ (· + ·) (congrArg₂ (· + ·) ?_ (congrArg Neg.neg ?_)) rfl
  · ac_rfl
  · ac_rfl

end

end Cert.KernelIdeal.Hand

end
-- ==== Proof.SpecArrays.lean ====
/- Hand-written: the seven results of the mathematics as arrays. -/
module

public import proofs.«01_k».proof.Proof.SpecArgs
@[expose] public section

set_option maxRecDepth 16384

noncomputable section

namespace Cert.Spec

open Idealize.ShloMosaic

namespace Args
variable (A : Args)
def dxA : (⟨3, ![2, 1024, 7168]⟩ : Shape).Idx → EReal := fun i => A.t (i 0) (i 1) (i 2)
def totalA : (⟨2, ![1, 7168]⟩ : Shape).Idx → EReal := fun i => A.total (i 1)
def partA : (⟨3, ![2, 8, 7168]⟩ : Shape).Idx → EReal := fun i => A.part (i 0) (i 1) (i 2)
def rcodeA : (⟨3, ![2, 1024, 7168]⟩ : Shape).Idx → EReal := fun i => A.rcode (i 0) (i 1) (i 2)
def rscaleA : (⟨3, ![2, 1024, 56]⟩ : Shape).Idx → EReal := fun i => A.rscale (i 0) (i 1) (i 2)
def ccodeA : (⟨3, ![2, 1024, 7168]⟩ : Shape).Idx → EReal := fun i => A.ccode (i 0) (i 1) (i 2)
def cscaleA : (⟨3, ![2, 8, 7168]⟩ : Shape).Idx → EReal := fun i => A.cscale (i 0) (i 1) (i 2)

theorem dxA_at (b : Fin 2) (s : Fin 1024) (e : Fin 7168) : A.dxA (ix3 b s e) = A.t b s e := rfl
theorem totalA_at (e : Fin 7168) : A.totalA (ix2 0 e) = A.total e := rfl
theorem partA_at (b : Fin 2) (i : Fin 8) (e : Fin 7168) : A.partA (ix3 b i e) = A.part b i e := rfl
theorem rcodeA_at (b : Fin 2) (s : Fin 1024) (e : Fin 7168) : A.rcodeA (ix3 b s e) = A.rcode b s e := rfl
theorem rscaleA_at (b : Fin 2) (s : Fin 1024) (n : Fin 56) : A.rscaleA (ix3 b s n) = A.rscale b s n := rfl
theorem ccodeA_at (b : Fin 2) (s : Fin 1024) (e : Fin 7168) : A.ccodeA (ix3 b s e) = A.ccode b s e := rfl
theorem cscaleA_at (b : Fin 2) (i : Fin 8) (e : Fin 7168) : A.cscaleA (ix3 b i e) = A.cscale b i e := rfl
end Args

end Cert.Spec

end
-- ==== Proof.KernelIdealTileScales.lean ====
/- Hand-written: the scales and codes of a point are those of the mathematics. -/
module

public import proofs.«01_k».proof.Proof.KernelIdealTileSpec
public import proofs.«01_k».proof.Proof.SpecArrays
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (UR sig nD τ) ℕ

open Cert.Spec (Args row lane grp rgrp rexp)

variable (m : (ℓ : Loc nD τ sig) → Buf (Elt Ideal) ℓ)

theorem le_abs (x : EReal) : 0 ≤ max x (-x) := by
  rcases le_total 0 x with h | h
  · exact le_max_of_le_left h
  · refine le_max_of_le_right ?_
    have := EReal.neg_le_neg_iff.mpr h
    rwa [neg_zero] at this
theorem lit_scale : 0 ≤ Ideal.ofBits .f32 0x3B124925#32 := by
  simp only [Ideal.ofBits, Ideal.ieee]
  simp [-EReal.coe_mul]
theorem fold_nonneg (f : Fin 128 → EReal) :
    0 ≤ (Finset.univ.fold max (Ideal.ofBits .f32 0xFF800000#32) fun l => max (f l) (-f l)) * Ideal.ofBits .f32 0x3B124925#32 := by
  refine mul_nonneg ?_ lit_scale
  exact (Finset.le_fold_max _).mpr (Or.inr ⟨0, Finset.mem_univ _, le_abs _⟩)

section
variable (c : Dev nD) (h0 : ∀ b s, 0 ≤ (args m c).r b s) (h1 : ∀ b s, (args m c).r b s ≠ ⊤) (t : Fin cfg0.N)
include h0 h1

theorem tile_rowA (p : Fin 128) (n : Fin 56) : (tile m c t).rowA p n.val = (args m c).rmax (ptB t) (row (ptI t) p) n := by
  unfold Tile.rowA Args.rmax
  refine Finset.fold_congr fun l _ => ?_
  have hc : col n.val l = lane n l := col_eq rfl
  rw [hc]
  show max ((tile m c t).t p (lane n l)) (-(tile m c t).t p (lane n l)) = _
  rw [tile_t m c t p (lane n l) (h0 _ _) (h1 _ _)]
theorem tile_colA (d : Fin 7168) : (tile m c t).colA d = (args m c).cmax (ptB t) (ptI t) d := by
  unfold Tile.colA Args.cmax
  refine Finset.fold_congr fun p _ => ?_
  show max ((tile m c t).t p d) (-(tile m c t).t p d) = _
  rw [tile_t m c t p d (h0 _ _) (h1 _ _)]
theorem tile_rscale (p : Fin 128) (n : Fin 56) : scl ((tile m c t).rowE p n.val) = (args m c).rscale (ptB t) (row (ptI t) p) n := by
  unfold Tile.rowE
  rw [tile_rowA m c h0 h1]
  exact (scales (fold_nonneg _)).1
theorem tile_cscale (d : Fin 7168) : scl ((tile m c t).colE d) = (args m c).cscale (ptB t) (ptI t) d := by
  unfold Tile.colE
  rw [tile_colA m c h0 h1]
  exact (scales (fold_nonneg _)).1
theorem tile_rcode (p : Fin 128) (d : Fin 7168) : (tile m c t).rcode p d = (args m c).rcode (ptB t) (row (ptI t) p) d := by
  unfold Tile.rcode
  rw [tile_t m c t p d (h0 _ _) (h1 _ _)]
  have hs : scl (0 - (tile m c t).rowE p (grp d).val) = Cert.Spec.invScale ((args m c).rmax (ptB t) (row (ptI t) p) (grp d)) := by
    unfold Tile.rowE
    rw [tile_rowA m c h0 h1]
    exact (scales (fold_nonneg _)).2
  exact congrArg (clip _) hs
theorem tile_ccode (p : Fin 128) (d : Fin 7168) : (tile m c t).ccode p d = (args m c).ccode (ptB t) (row (ptI t) p) d := by
  unfold Tile.ccode Args.ccode
  rw [tile_t m c t p d (h0 _ _) (h1 _ _)]
  have hg : rgrp (row (ptI t) p) = ptI t := Fin.ext (by
    show (128 * (ptI t).val + p.val) / 128 = (ptI t).val
    have := p.isLt; omega)
  have hs : scl (0 - (tile m c t).colE d) = Cert.Spec.invScale ((args m c).cmax (ptB t) (ptI t) d) := by
    unfold Tile.colE
    rw [tile_colA m c h0 h1]
    exact (scales (fold_nonneg _)).2
  rw [hg]
  exact congrArg (clip _) hs
end

/-- A sum over the sixteen points, by batch and group of rows. -/
theorem sum_points (f : ℕ → EReal) : ∑ u ∈ Finset.range 16, f u = ∑ b : Fin 2, ∑ i : Fin 8, f (8 * b.val + i.val) := by
  rw [Finset.sum_range]
  rw [← (finProdFinEquiv (m := 2) (n := 8)).sum_comp (fun e : Fin (2 * 8) => f e.val), Fintype.sum_prod_type]
  refine Finset.sum_congr rfl fun b _ => Finset.sum_congr rfl fun i _ => congrArg f ?_
  show i.val + 8 * b.val = _
  omega
theorem partN_at (c : Dev nD) (b : Fin 2) (i : Fin 8) (d : Fin 7168) : partN m c (8 * b.val + i.val) d = (args m c).part b i d := by
  have hb := b.isLt
  have hi := i.isLt
  have hn : 8 * b.val + i.val < cfg0.N := lt_of_lt_of_eq (by omega : _ < 16) N_0.symm
  refine (partN_val m c ⟨_, hn⟩ d).trans ?_
  rw [tile_part]
  have e1 : ptB ⟨8 * b.val + i.val, hn⟩ = b := Fin.ext (by show (8 * b.val + i.val) / 8 = _; omega)
  have e2 : ptI ⟨8 * b.val + i.val, hn⟩ = i := Fin.ext (by show (8 * b.val + i.val) % 8 = _; omega)
  rw [e1, e2]
theorem sumN_at (c : Dev nD) (d : Fin 7168) : sumN m c 15 d = (args m c).total d := by
  unfold sumN Args.total
  rw [sum_points]
  exact Finset.sum_congr rfl fun b _ => Finset.sum_congr rfl fun i _ => partN_at m c b i d
theorem cscaleN_at (c : Dev nD) (h0 : ∀ b s, 0 ≤ (args m c).r b s) (h1 : ∀ b s, (args m c).r b s ≠ ⊤) (b : Fin 2) (i : Fin 8) (d : Fin 7168) :
    cscaleN m c (8 * b.val + i.val) d = (args m c).cscale b i d := by
  have hb := b.isLt
  have hi := i.isLt
  have hn : 8 * b.val + i.val < cfg0.N := lt_of_lt_of_eq (by omega : _ < 16) N_0.symm
  refine (cscaleN_val m c ⟨_, hn⟩ d).trans ?_
  rw [tile_cscale m c h0 h1]
  have e1 : ptB ⟨8 * b.val + i.val, hn⟩ = b := Fin.ext (by show (8 * b.val + i.val) / 8 = _; omega)
  have e2 : ptI ⟨8 * b.val + i.val, hn⟩ = i := Fin.ext (by show (8 * b.val + i.val) % 8 = _; omega)
  rw [e1, e2]

end Cert.KernelIdeal.Hand

end
-- ==== Proof.KernelIdealFinal.lean ====
/- Hand-written: the seven result arrays after the launch. -/
module

public import proofs.«01_k».proof.Proof.KernelIdealTileScales
public import Idealize.ShloMosaic.Lib.Pipeline.ArrRel
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (UR sig nD τ) ℕ

open Cert.Spec (Args row lane grp rgrp rexp)

variable (m : (ℓ : Loc nD τ sig) → Buf (Elt Ideal) ℓ)

theorem final7 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 7 cfg0.N = (args m c).dxA := by
  refine Dat.arrAt_eq_of_covers _ 7 _ (by decide +kernel) fun t hf y => ?_
  have hR : R7 m c t (after 7 t) := Pipeline.Dat.toRRel_leaves (dats m 0 c) (w := 7) rfl (hL 7 t hf)
  have ht := lt16 t
  blk_simp
  rw [Pipeline.RDat.withAfter_after]
  obtain ⟨z, p, d, rfl⟩ : ∃ (z : Fin 1) (p : Fin 128) (d : Fin 7168), y = ix3 z p d := ⟨y 0, y 1, y 2, eq_ix3 y⟩
  obtain rfl : z = 0 := Fin.ext (by have := z.isLt; omega)
  refine (hR p d).trans ?_
  refine (tile_t m c t p d (h0 _ _) (h1 _ _)).trans ?_
  have e : (ix3 (ptB t) (row (ptI t) p) d : (⟨3, ![2, 1024, 7168]⟩ : Shape).Idx) = (win0_7.blk t).view.emb (ix3 0 p d) := by
    unfold ptB ptI row
    blk_ext [idx t]
  refine (Args.dxA_at _ _ _ _).symm.trans ?_
  exact congrArg (args m c).dxA e
theorem final10 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 10 cfg0.N = (args m c).rcodeA := by
  refine Dat.arrAt_eq_of_covers _ 10 _ (by decide +kernel) fun t hf y => ?_
  have hR : R10 m c t (after 10 t) := Pipeline.Dat.toRRel_leaves (dats m 0 c) (w := 10) rfl (hL 10 t hf)
  have ht := lt16 t
  blk_simp
  rw [Pipeline.RDat.withAfter_after]
  obtain ⟨z, p, d, rfl⟩ : ∃ (z : Fin 1) (p : Fin 128) (d : Fin 7168), y = ix3 z p d := ⟨y 0, y 1, y 2, eq_ix3 y⟩
  obtain rfl : z = 0 := Fin.ext (by have := z.isLt; omega)
  refine (hR p d).trans ?_
  refine (tile_rcode m c h0 h1 t p d).trans ?_
  have e : (ix3 (ptB t) (row (ptI t) p) d : (⟨3, ![2, 1024, 7168]⟩ : Shape).Idx) = (win0_10.blk t).view.emb (ix3 0 p d) := by
    unfold ptB ptI row
    blk_ext [idx t]
  refine (Args.rcodeA_at _ _ _ _).symm.trans ?_
  exact congrArg (args m c).rcodeA e
theorem final11 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 11 cfg0.N = (args m c).rscaleA := by
  refine Dat.arrAt_eq_of_covers _ 11 _ (by decide +kernel) fun t hf y => ?_
  have hR : R11 m c t (after 11 t) := Pipeline.Dat.toRRel_leaves (dats m 0 c) (w := 11) rfl (hL 11 t hf)
  have ht := lt16 t
  blk_simp
  rw [Pipeline.RDat.withAfter_after]
  obtain ⟨z, p, d, rfl⟩ : ∃ (z : Fin 1) (p : Fin 128) (d : Fin 56), y = ix3 z p d := ⟨y 0, y 1, y 2, eq_ix3 y⟩
  obtain rfl : z = 0 := Fin.ext (by have := z.isLt; omega)
  refine (hR p d).trans ?_
  refine (tile_rscale m c h0 h1 t p d).trans ?_
  have e : (ix3 (ptB t) (row (ptI t) p) d : (⟨3, ![2, 1024, 56]⟩ : Shape).Idx) = (win0_11.blk t).view.emb (ix3 0 p d) := by
    unfold ptB ptI row
    blk_ext [idx t]
  refine (Args.rscaleA_at _ _ _ _).symm.trans ?_
  exact congrArg (args m c).rscaleA e
theorem final12 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 12 cfg0.N = (args m c).ccodeA := by
  refine Dat.arrAt_eq_of_covers _ 12 _ (by decide +kernel) fun t hf y => ?_
  have hR : R12 m c t (after 12 t) := Pipeline.Dat.toRRel_leaves (dats m 0 c) (w := 12) rfl (hL 12 t hf)
  have ht := lt16 t
  blk_simp
  rw [Pipeline.RDat.withAfter_after]
  obtain ⟨z, p, d, rfl⟩ : ∃ (z : Fin 1) (p : Fin 128) (d : Fin 7168), y = ix3 z p d := ⟨y 0, y 1, y 2, eq_ix3 y⟩
  obtain rfl : z = 0 := Fin.ext (by have := z.isLt; omega)
  refine (hR p d).trans ?_
  refine (tile_ccode m c h0 h1 t p d).trans ?_
  have e : (ix3 (ptB t) (row (ptI t) p) d : (⟨3, ![2, 1024, 7168]⟩ : Shape).Idx) = (win0_12.blk t).view.emb (ix3 0 p d) := by
    unfold ptB ptI row
    blk_ext [idx t]
  refine (Args.ccodeA_at _ _ _ _).symm.trans ?_
  exact congrArg (args m c).ccodeA e
theorem final9 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 9 cfg0.N = (args m c).partA := by
  refine Dat.arrAt_eq_of_covers _ 9 _ (by decide +kernel) fun t hf y => ?_
  have hR : R9 m c t (after 9 t) := Pipeline.Dat.toRRel_leaves (dats m 0 c) (w := 9) rfl (hL 9 t hf)
  have ht := lt16 t
  blk_simp
  rw [Pipeline.RDat.withAfter_after]
  obtain ⟨z, p, d, rfl⟩ : ∃ (z : Fin 1) (p : Fin 8) (d : Fin 7168), y = ix3 z p d := ⟨y 0, y 1, y 2, eq_ix3 y⟩
  obtain rfl : z = 0 := Fin.ext (by have := z.isLt; omega)
  refine (hR p d (by have := (flush0_9 t).mp hf; have := p.isLt; omega)).trans ?_
  refine (partN_at m c (ptB t) p d).trans ?_
  have e : (ix3 (ptB t) p d : (⟨3, ![2, 8, 7168]⟩ : Shape).Idx) = (win0_9.blk t).view.emb (ix3 0 p d) := by
    unfold ptB
    blk_ext [idx t]
  refine (Args.partA_at _ _ _ _).symm.trans ?_
  exact congrArg (args m c).partA e
theorem final13 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 13 cfg0.N = (args m c).cscaleA := by
  refine Dat.arrAt_eq_of_covers _ 13 _ (by decide +kernel) fun t hf y => ?_
  have hR : R13 m c t (after 13 t) := Pipeline.Dat.toRRel_leaves (dats m 0 c) (w := 13) rfl (hL 13 t hf)
  have ht := lt16 t
  blk_simp
  rw [Pipeline.RDat.withAfter_after]
  obtain ⟨z, p, d, rfl⟩ : ∃ (z : Fin 1) (p : Fin 8) (d : Fin 7168), y = ix3 z p d := ⟨y 0, y 1, y 2, eq_ix3 y⟩
  obtain rfl : z = 0 := Fin.ext (by have := z.isLt; omega)
  refine (hR p d (by have := (flush0_13 t).mp hf; have := p.isLt; omega)).trans ?_
  refine (cscaleN_at m c h0 h1 (ptB t) p d).trans ?_
  have e : (ix3 (ptB t) p d : (⟨3, ![2, 8, 7168]⟩ : Shape).Idx) = (win0_13.blk t).view.emb (ix3 0 p d) := by
    unfold ptB
    blk_ext [idx t]
  refine (Args.cscaleA_at _ _ _ _).symm.trans ?_
  exact congrArg (args m c).cscaleA e
theorem final8 (c : Dev nD) (h0 : ∀ b s, 0 ≤ (args m c).r b s) (h1 : ∀ b s, (args m c).r b s ≠ ⊤)
    (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 8 cfg0.N = (args m c).totalA := by
  refine Dat.arrAt_eq_of_covers _ 8 _ (by decide +kernel) fun t hf y => ?_
  have hR : R8 m c t (after 8 t) := Pipeline.Dat.toRRel_leaves (dats m 0 c) (w := 8) rfl (hL 8 t hf)
  have ht := lt16 t
  blk_simp
  rw [Pipeline.RDat.withAfter_after]
  obtain ⟨z, d, rfl⟩ : ∃ (z : Fin 1) (d : Fin 7168), y = ix2 z d := ⟨y 0, y 1, eq_ix2 y⟩
  obtain rfl : z = 0 := Fin.ext (by have := z.isLt; omega)
  refine (hR d).trans ?_
  have h15 : t.val = 15 := by have := (flush0_8 t).mp hf; omega
  rw [h15, sumN_at]
  have e : (ix2 (0 : Fin 1) d : (⟨2, ![1, 7168]⟩ : Shape).Idx) = (win0_8.blk t).view.emb (ix2 0 d) := by
    blk_ext [idx t]
  refine (Args.totalA_at _ _).symm.trans ?_
  exact congrArg (args m c).totalA e

end Cert.KernelIdeal.Hand

end
-- ==== Proof.KernelIdealVal1.lean ====
/- Hand-written: one trip of the first loop over blocks of columns, with the values it stores. -/
module

public import proofs.«01_k».proof.Proof.KernelIdealPoint
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- What the first loop holds after `k` trips: the columns done so far at their values. -/
abbrev Val_t1 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg17 : BufTy.Contents (Elt Ideal) arg17.view.ty) (T : Tile) (Y10 : Fin 7168 → EReal) (Y11 : Fin 8 → Fin 7168 → EReal)
    (k : ℕ) (acc : FVec Ideal S128x128 .f32) : sProp 𝕄 :=
  iprop(⌜∀ p l, acc (ix2 p l) = T.acc (4 * k) p l⌝ ∗ (arg2.view.loc (c : Thread nD τ) ↦[arg2.view.set]{fullShare} X_arg2) ∗ (arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg17.view.loc (c : Thread nD τ) ↦[arg17.view.set]{fullShare} X_arg17) ∗ (∃ f, ⌜∀ d : Fin 7168, arg10.view.read (Elt Ideal) f (ix2 0 d) = if d.val < 512 * k then Y10 d + T.part d else Y10 d⌝ ∗ (arg10.view.loc (c : Thread nD τ) ↦[arg10.view.set]{fullShare} f)) ∗ (∃ f, ⌜∀ (s : Fin 8) (d : Fin 7168), arg11.view.read (Elt Ideal) f (ix3 0 s d) = if s.val = (i 1).val ∧ d.val < 512 * k then T.part d else Y11 s d⌝ ∗ (arg11.view.loc (c : Thread nD τ) ↦[arg11.view.set]{fullShare} f)) ∗ (∃ f, ⌜∀ (p : Fin 128) (d : Fin 7168), d.val < 512 * k → arg16.view.read (Elt Ideal) f (ix2 p d) = T.g p d⌝ ∗ (arg16.view.loc (c : Thread nD τ) ↦[arg16.view.set]{fullShare} f)))

set_option maxHeartbeats 4000000 in
/-- One trip stores its columns' values. -/
theorem vtrip_t1 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg17 : BufTy.Contents (Elt Ideal) arg17.view.ty) (T : Tile) (Y10 : Fin 7168 → EReal) (Y11 : Fin 8 → Fin 7168 → EReal)
    (h2 : ∀ p d, arg2.view.read (Elt Ideal) X_arg2 (ix3 0 p d) = T.X p d) (h4 : ∀ d, arg4.view.read (Elt Ideal) X_arg4 (ix2 0 d) = T.Γ d) (h6 : ∀ p d, arg6.view.read (Elt Ideal) X_arg6 (ix3 0 p d) = T.Q p d) (h7 : ∀ p d, arg7.view.read (Elt Ideal) X_arg7 (ix3 0 p d) = T.K p d) (h8 : ∀ p d, arg8.view.read (Elt Ideal) X_arg8 (ix3 0 p d) = T.V p d) (h17 : ∀ p l, arg17.view.read (Elt Ideal) X_arg17 (ix2 p l) = T.r p)
    (k : Fin k0_t1_loop.trips) (acc : FVec Ideal S128x128 .f32) (E : Set ℕ) :
    Val_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X_arg17 T Y10 Y11 k.val acc
    ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc)
        (fun acc' => Val_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X_arg17 T Y10 Y11 (k.val + 1) acc') := by
  have hk : k.val < 14 := Nat.lt_of_lt_of_le k.isLt k0_t1_abs.2.1
  unfold k0_t1_body
  iintro ⟨%ha, HR_arg2, HR_arg4, HR_arg6, HR_arg7, HR_arg8, HR_arg17, ⟨%f_arg10, %h10, HW_arg10⟩, ⟨%f_arg11, %h11, HW_arg11⟩, ⟨%f_arg16, %h16, HW_arg16⟩⟩
  sl_exec_parts
  sl_step
  have o20 : k0_off2 k 0#32 = ![0, 0, 512 * k.val + 128 * 0] := k0_off2_eq k ⟨0, by decide⟩
  have o21 : k0_off2 k 1#32 = ![0, 0, 512 * k.val + 128 * 1] := k0_off2_eq k ⟨1, by decide⟩
  have o22 : k0_off2 k 2#32 = ![0, 0, 512 * k.val + 128 * 2] := k0_off2_eq k ⟨2, by decide⟩
  have o23 : k0_off2 k 3#32 = ![0, 0, 512 * k.val + 128 * 3] := k0_off2_eq k ⟨3, by decide⟩
  have o30 : k0_off3 k 0#32 = ![0, 512 * k.val + 128 * 0] := k0_off3_eq k ⟨0, by decide⟩
  have o31 : k0_off3 k 1#32 = ![0, 512 * k.val + 128 * 1] := k0_off3_eq k ⟨1, by decide⟩
  have o32 : k0_off3 k 2#32 = ![0, 512 * k.val + 128 * 2] := k0_off3_eq k ⟨2, by decide⟩
  have o33 : k0_off3 k 3#32 = ![0, 512 * k.val + 128 * 3] := k0_off3_eq k ⟨3, by decide⟩
  have o40 : k0_off4 k 0#32 = ![0, 0, 512 * k.val + 128 * 0] := k0_off4_eq k ⟨0, by decide⟩
  have o41 : k0_off4 k 1#32 = ![0, 0, 512 * k.val + 128 * 1] := k0_off4_eq k ⟨1, by decide⟩
  have o42 : k0_off4 k 2#32 = ![0, 0, 512 * k.val + 128 * 2] := k0_off4_eq k ⟨2, by decide⟩
  have o43 : k0_off4 k 3#32 = ![0, 0, 512 * k.val + 128 * 3] := k0_off4_eq k ⟨3, by decide⟩
  have o50 : k0_off5 k 0#32 = ![0, 512 * k.val + 128 * 0] := k0_off5_eq k ⟨0, by decide⟩
  have o51 : k0_off5 k 1#32 = ![0, 512 * k.val + 128 * 1] := k0_off5_eq k ⟨1, by decide⟩
  have o52 : k0_off5 k 2#32 = ![0, 512 * k.val + 128 * 2] := k0_off5_eq k ⟨2, by decide⟩
  have o53 : k0_off5 k 3#32 = ![0, 512 * k.val + 128 * 3] := k0_off5_eq k ⟨3, by decide⟩
  have hv : ∀ (u : ℕ) (l : Fin 128), u < 4 → (col (4 * k.val + u) l).val = 512 * k.val + 128 * u + l.val := by
    intro u l hu; show (128 * (4 * k.val + u) + l.val) % 7168 = _; omega
  have L20 : ∀ p l : Fin 128, arg2.view.readAt (Elt Ideal) (Rect.unit (s := S1x128x7168) (k0_off2 k 0#32) S1x128x128.size (k0_off2_inb k 0)).toLoadRect X_arg2 (ix3 0 p l) = T.X p (col (4 * k.val + 0) l) :=
    fun p l => (Cert.Blocks.load3 arg2.view X_arg2 (k0_off2_inb k 0) p l (col (4 * k.val + 0) l) _ o20 (hv 0 l (by omega))).trans (h2 p _)
  have L21 : ∀ p l : Fin 128, arg2.view.readAt (Elt Ideal) (Rect.unit (s := S1x128x7168) (k0_off2 k 1#32) S1x128x128.size (k0_off2_inb k 1)).toLoadRect X_arg2 (ix3 0 p l) = T.X p (col (4 * k.val + 1) l) :=
    fun p l => (Cert.Blocks.load3 arg2.view X_arg2 (k0_off2_inb k 1) p l (col (4 * k.val + 1) l) _ o21 (hv 1 l (by omega))).trans (h2 p _)
  have L22 : ∀ p l : Fin 128, arg2.view.readAt (Elt Ideal) (Rect.unit (s := S1x128x7168) (k0_off2 k 2#32) S1x128x128.size (k0_off2_inb k 2)).toLoadRect X_arg2 (ix3 0 p l) = T.X p (col (4 * k.val + 2) l) :=
    fun p l => (Cert.Blocks.load3 arg2.view X_arg2 (k0_off2_inb k 2) p l (col (4 * k.val + 2) l) _ o22 (hv 2 l (by omega))).trans (h2 p _)
  have L23 : ∀ p l : Fin 128, arg2.view.readAt (Elt Ideal) (Rect.unit (s := S1x128x7168) (k0_off2 k 3#32) S1x128x128.size (k0_off2_inb k 3)).toLoadRect X_arg2 (ix3 0 p l) = T.X p (col (4 * k.val + 3) l) :=
    fun p l => (Cert.Blocks.load3 arg2.view X_arg2 (k0_off2_inb k 3) p l (col (4 * k.val + 3) l) _ o23 (hv 3 l (by omega))).trans (h2 p _)
  have L60 : ∀ p l : Fin 128, arg6.view.readAt (Elt Ideal) (Rect.unit (s := S1x128x7168) (k0_off2 k 0#32) S1x128x128.size (k0_off2_inb k 0)).toLoadRect X_arg6 (ix3 0 p l) = T.Q p (col (4 * k.val + 0) l) :=
    fun p l => (Cert.Blocks.load3 arg6.view X_arg6 (k0_off2_inb k 0) p l (col (4 * k.val + 0) l) _ o20 (hv 0 l (by omega))).trans (h6 p _)
  have L61 : ∀ p l : Fin 128, arg6.view.readAt (Elt Ideal) (Rect.unit (s := S1x128x7168) (k0_off2 k 1#32) S1x128x128.size (k0_off2_inb k 1)).toLoadRect X_arg6 (ix3 0 p l) = T.Q p (col (4 * k.val + 1) l) :=
    fun p l => (Cert.Blocks.load3 arg6.view X_arg6 (k0_off2_inb k 1) p l (col (4 * k.val + 1) l) _ o21 (hv 1 l (by omega))).trans (h6 p _)
  have L62 : ∀ p l : Fin 128, arg6.view.readAt (Elt Ideal) (Rect.unit (s := S1x128x7168) (k0_off2 k 2#32) S1x128x128.size (k0_off2_inb k 2)).toLoadRect X_arg6 (ix3 0 p l) = T.Q p (col (4 * k.val + 2) l) :=
    fun p l => (Cert.Blocks.load3 arg6.view X_arg6 (k0_off2_inb k 2) p l (col (4 * k.val + 2) l) _ o22 (hv 2 l (by omega))).trans (h6 p _)
  have L63 : ∀ p l : Fin 128, arg6.view.readAt (Elt Ideal) (Rect.unit (s := S1x128x7168) (k0_off2 k 3#32) S1x128x128.size (k0_off2_inb k 3)).toLoadRect X_arg6 (ix3 0 p l) = T.Q p (col (4 * k.val + 3) l) :=
    fun p l => (Cert.Blocks.load3 arg6.view X_arg6 (k0_off2_inb k 3) p l (col (4 * k.val + 3) l) _ o23 (hv 3 l (by omega))).trans (h6 p _)
  have L70 : ∀ p l : Fin 128, arg7.view.readAt (Elt Ideal) (Rect.unit (s := S1x128x7168) (k0_off2 k 0#32) S1x128x128.size (k0_off2_inb k 0)).toLoadRect X_arg7 (ix3 0 p l) = T.K p (col (4 * k.val + 0) l) :=
    fun p l => (Cert.Blocks.load3 arg7.view X_arg7 (k0_off2_inb k 0) p l (col (4 * k.val + 0) l) _ o20 (hv 0 l (by omega))).trans (h7 p _)
  have L71 : ∀ p l : Fin 128, arg7.view.readAt (Elt Ideal) (Rect.unit (s := S1x128x7168) (k0_off2 k 1#32) S1x128x128.size (k0_off2_inb k 1)).toLoadRect X_arg7 (ix3 0 p l) = T.K p (col (4 * k.val + 1) l) :=
    fun p l => (Cert.Blocks.load3 arg7.view X_arg7 (k0_off2_inb k 1) p l (col (4 * k.val + 1) l) _ o21 (hv 1 l (by omega))).trans (h7 p _)
  have L72 : ∀ p l : Fin 128, arg7.view.readAt (Elt Ideal) (Rect.unit (s := S1x128x7168) (k0_off2 k 2#32) S1x128x128.size (k0_off2_inb k 2)).toLoadRect X_arg7 (ix3 0 p l) = T.K p (col (4 * k.val + 2) l) :=
    fun p l => (Cert.Blocks.load3 arg7.view X_arg7 (k0_off2_inb k 2) p l (col (4 * k.val + 2) l) _ o22 (hv 2 l (by omega))).trans (h7 p _)
  have L73 : ∀ p l : Fin 128, arg7.view.readAt (Elt Ideal) (Rect.unit (s := S1x128x7168) (k0_off2 k 3#32) S1x128x128.size (k0_off2_inb k 3)).toLoadRect X_arg7 (ix3 0 p l) = T.K p (col (4 * k.val + 3) l) :=
    fun p l => (Cert.Blocks.load3 arg7.view X_arg7 (k0_off2_inb k 3) p l (col (4 * k.val + 3) l) _ o23 (hv 3 l (by omega))).trans (h7 p _)
  have L80 : ∀ p l : Fin 128, arg8.view.readAt (Elt Ideal) (Rect.unit (s := S1x128x7168) (k0_off2 k 0#32) S1x128x128.size (k0_off2_inb k 0)).toLoadRect X_arg8 (ix3 0 p l) = T.V p (col (4 * k.val + 0) l) :=
    fun p l => (Cert.Blocks.load3 arg8.view X_arg8 (k0_off2_inb k 0) p l (col (4 * k.val + 0) l) _ o20 (hv 0 l (by omega))).trans (h8 p _)
  have L81 : ∀ p l : Fin 128, arg8.view.readAt (Elt Ideal) (Rect.unit (s := S1x128x7168) (k0_off2 k 1#32) S1x128x128.size (k0_off2_inb k 1)).toLoadRect X_arg8 (ix3 0 p l) = T.V p (col (4 * k.val + 1) l) :=
    fun p l => (Cert.Blocks.load3 arg8.view X_arg8 (k0_off2_inb k 1) p l (col (4 * k.val + 1) l) _ o21 (hv 1 l (by omega))).trans (h8 p _)
  have L82 : ∀ p l : Fin 128, arg8.view.readAt (Elt Ideal) (Rect.unit (s := S1x128x7168) (k0_off2 k 2#32) S1x128x128.size (k0_off2_inb k 2)).toLoadRect X_arg8 (ix3 0 p l) = T.V p (col (4 * k.val + 2) l) :=
    fun p l => (Cert.Blocks.load3 arg8.view X_arg8 (k0_off2_inb k 2) p l (col (4 * k.val + 2) l) _ o22 (hv 2 l (by omega))).trans (h8 p _)
  have L83 : ∀ p l : Fin 128, arg8.view.readAt (Elt Ideal) (Rect.unit (s := S1x128x7168) (k0_off2 k 3#32) S1x128x128.size (k0_off2_inb k 3)).toLoadRect X_arg8 (ix3 0 p l) = T.V p (col (4 * k.val + 3) l) :=
    fun p l => (Cert.Blocks.load3 arg8.view X_arg8 (k0_off2_inb k 3) p l (col (4 * k.val + 3) l) _ o23 (hv 3 l (by omega))).trans (h8 p _)
  have L40 : ∀ l : Fin 128, arg4.view.readAt (Elt Ideal) (Rect.unit (s := S1x7168) (k0_off5 k 0#32) S1x128.size (k0_off5_inb k 0)).toLoadRect X_arg4 (ix2 0 l) = T.Γ (col (4 * k.val + 0) l) :=
    fun l => (Cert.Blocks.load2 arg4.view X_arg4 (k0_off5_inb k 0) 0 l (col (4 * k.val + 0) l) _ o50 (hv 0 l (by omega))).trans (h4 _)
  have L100 : ∀ l : Fin 128, arg10.view.readAt (Elt Ideal) (Rect.unit (s := S1x7168) (k0_off5 k 0#32) S1x128.size (k0_off5_inb k 0)).toLoadRect f_arg10 (ix2 0 l) = Y10 (col (4 * k.val + 0) l) :=
    fun l => (Cert.Blocks.load2 arg10.view f_arg10 (k0_off5_inb k 0) 0 l (col (4 * k.val + 0) l) _ o50 (hv 0 l (by omega))).trans
      ((h10 _).trans (if_neg (by rw [hv 0 l (by omega)]; omega)))
  have L41 : ∀ l : Fin 128, arg4.view.readAt (Elt Ideal) (Rect.unit (s := S1x7168) (k0_off5 k 1#32) S1x128.size (k0_off5_inb k 1)).toLoadRect X_arg4 (ix2 0 l) = T.Γ (col (4 * k.val + 1) l) :=
    fun l => (Cert.Blocks.load2 arg4.view X_arg4 (k0_off5_inb k 1) 0 l (col (4 * k.val + 1) l) _ o51 (hv 1 l (by omega))).trans (h4 _)
  have L101 : ∀ l : Fin 128, arg10.view.readAt (Elt Ideal) (Rect.unit (s := S1x7168) (k0_off5 k 1#32) S1x128.size (k0_off5_inb k 1)).toLoadRect f_arg10 (ix2 0 l) = Y10 (col (4 * k.val + 1) l) :=
    fun l => (Cert.Blocks.load2 arg10.view f_arg10 (k0_off5_inb k 1) 0 l (col (4 * k.val + 1) l) _ o51 (hv 1 l (by omega))).trans
      ((h10 _).trans (if_neg (by rw [hv 1 l (by omega)]; omega)))
  have L42 : ∀ l : Fin 128, arg4.view.readAt (Elt Ideal) (Rect.unit (s := S1x7168) (k0_off5 k 2#32) S1x128.size (k0_off5_inb k 2)).toLoadRect X_arg4 (ix2 0 l) = T.Γ (col (4 * k.val + 2) l) :=
    fun l => (Cert.Blocks.load2 arg4.view X_arg4 (k0_off5_inb k 2) 0 l (col (4 * k.val + 2) l) _ o52 (hv 2 l (by omega))).trans (h4 _)
  have L102 : ∀ l : Fin 128, arg10.view.readAt (Elt Ideal) (Rect.unit (s := S1x7168) (k0_off5 k 2#32) S1x128.size (k0_off5_inb k 2)).toLoadRect f_arg10 (ix2 0 l) = Y10 (col (4 * k.val + 2) l) :=
    fun l => (Cert.Blocks.load2 arg10.view f_arg10 (k0_off5_inb k 2) 0 l (col (4 * k.val + 2) l) _ o52 (hv 2 l (by omega))).trans
      ((h10 _).trans (if_neg (by rw [hv 2 l (by omega)]; omega)))
  have L43 : ∀ l : Fin 128, arg4.view.readAt (Elt Ideal) (Rect.unit (s := S1x7168) (k0_off5 k 3#32) S1x128.size (k0_off5_inb k 3)).toLoadRect X_arg4 (ix2 0 l) = T.Γ (col (4 * k.val + 3) l) :=
    fun l => (Cert.Blocks.load2 arg4.view X_arg4 (k0_off5_inb k 3) 0 l (col (4 * k.val + 3) l) _ o53 (hv 3 l (by omega))).trans (h4 _)
  have L103 : ∀ l : Fin 128, arg10.view.readAt (Elt Ideal) (Rect.unit (s := S1x7168) (k0_off5 k 3#32) S1x128.size (k0_off5_inb k 3)).toLoadRect f_arg10 (ix2 0 l) = Y10 (col (4 * k.val + 3) l) :=
    fun l => (Cert.Blocks.load2 arg10.view f_arg10 (k0_off5_inb k 3) 0 l (col (4 * k.val + 3) l) _ o53 (hv 3 l (by omega))).trans
      ((h10 _).trans (if_neg (by rw [hv 3 l (by omega)]; omega)))
  have L17 : ∀ (inb : ∀ a : Fin 2, (![0, 0] : Fin 2 → ℕ) a + S128x128.size a ≤ S128x128.size a) (p l : Fin 128),
      arg17.view.readAt (Elt Ideal) (Rect.unit (s := S128x128) ![0, 0] S128x128.size inb).toLoadRect X_arg17 (ix2 p l) = T.r p :=
    fun inb p l => (Cert.Blocks.load2 arg17.view X_arg17 inb p l l _ rfl (Nat.zero_add _).symm).trans (h17 p l)
  isplitr
  · ipureintro
    intro p l
    sl_unfold_run_names
    rw [Tile.acc_four]
    pointwise [k0_pay167, k0_pay168, k0_pay169, k0_pay170, k0_pay171, k0_pay173, k0_pay174]
    simp only [ha, L20, L21, L22, L23, L60, L61, L62, L63, L70, L71, L72, L73, L80, L81, L82, L83, L40, L41, L42, L43, L100, L101, L102, L103, L17]
    rfl
  isplitl [HR_arg2]; · iexact HR_arg2
  isplitl [HR_arg4]; · iexact HR_arg4
  isplitl [HR_arg6]; · iexact HR_arg6
  isplitl [HR_arg7]; · iexact HR_arg7
  isplitl [HR_arg8]; · iexact HR_arg8
  isplitl [HR_arg17]; · iexact HR_arg17
  isplitl [HW_arg10]
  · iexists _; isplitr [HW_arg10]; rotate_left; iexact HW_arg10
    ipureintro; intro d
    sl_unfold_run_names
    refine (Cert.Blocks.four2 arg10.view f_arg10 _ _ _ _ _ _ _ _ k.val (fun _ d => Y10 d + T.part d) o50 o51 o52 o53 ?_ ?_ ?_ ?_ 0 d).trans ?_
    · intro p l d hd; obtain rfl : col (4 * k.val + 0) l = d := col_eq (by omega)
      obtain rfl : p = 0 := Subsingleton.elim _ _; pointwise; simp only [L20, L21, L22, L23, L60, L61, L62, L63, L70, L71, L72, L73, L80, L81, L82, L83, L40, L41, L42, L43, L100, L101, L102, L103, L17]; rfl
    · intro p l d hd; obtain rfl : col (4 * k.val + 1) l = d := col_eq (by omega)
      obtain rfl : p = 0 := Subsingleton.elim _ _; pointwise; simp only [L20, L21, L22, L23, L60, L61, L62, L63, L70, L71, L72, L73, L80, L81, L82, L83, L40, L41, L42, L43, L100, L101, L102, L103, L17]; rfl
    · intro p l d hd; obtain rfl : col (4 * k.val + 2) l = d := col_eq (by omega)
      obtain rfl : p = 0 := Subsingleton.elim _ _; pointwise; simp only [L20, L21, L22, L23, L60, L61, L62, L63, L70, L71, L72, L73, L80, L81, L82, L83, L40, L41, L42, L43, L100, L101, L102, L103, L17]; rfl
    · intro p l d hd; obtain rfl : col (4 * k.val + 3) l = d := col_eq (by omega)
      obtain rfl : p = 0 := Subsingleton.elim _ _; pointwise [k0_pay167, k0_pay168, k0_pay169, k0_pay170, k0_pay171, k0_pay173, k0_pay174]; simp only [L20, L21, L22, L23, L60, L61, L62, L63, L70, L71, L72, L73, L80, L81, L82, L83, L40, L41, L42, L43, L100, L101, L102, L103, L17]; rfl
    · by_cases hd : d.val / 512 = k.val
      · rw [if_pos hd, if_pos (by omega)]
      · rw [if_neg hd, h10]
        by_cases hd' : d.val < 512 * k.val
        · rw [if_pos hd', if_pos (by omega)]
        · rw [if_neg hd', if_neg (by omega)]
  isplitl [HW_arg11]
  · iexists _; isplitr [HW_arg11]; rotate_left; iexact HW_arg11
    ipureintro; intro s d
    sl_unfold_run_names
    refine (Cert.Blocks.four3 arg11.view f_arg11 (fun s => s.val = (i 1).val) _ _ _ _ _ _ _ _ _ _ _ _ k.val (fun _ d => T.part d) o40 o41 o42 o43 ?_ ?_ ?_ ?_ ?_ ?_ ?_ ?_ s d).trans ?_
    · intro p l; rw [mem_on]; exact row_mask172 i p l
    · intro p l; rw [mem_on]; exact row_mask172 i p l
    · intro p l; rw [mem_on]; exact row_mask172 i p l
    · intro p l; rw [mem_on]; exact row_mask172 i p l
    · intro p l d hd; obtain rfl : col (4 * k.val + 0) l = d := col_eq (by omega)
      intro _; pointwise; simp only [L20, L21, L22, L23, L60, L61, L62, L63, L70, L71, L72, L73, L80, L81, L82, L83, L40, L41, L42, L43, L100, L101, L102, L103, L17]; rfl
    · intro p l d hd; obtain rfl : col (4 * k.val + 1) l = d := col_eq (by omega)
      intro _; pointwise; simp only [L20, L21, L22, L23, L60, L61, L62, L63, L70, L71, L72, L73, L80, L81, L82, L83, L40, L41, L42, L43, L100, L101, L102, L103, L17]; rfl
    · intro p l d hd; obtain rfl : col (4 * k.val + 2) l = d := col_eq (by omega)
      intro _; pointwise; simp only [L20, L21, L22, L23, L60, L61, L62, L63, L70, L71, L72, L73, L80, L81, L82, L83, L40, L41, L42, L43, L100, L101, L102, L103, L17]; rfl
    · intro p l d hd; obtain rfl : col (4 * k.val + 3) l = d := col_eq (by omega)
      intro _; pointwise [k0_pay167, k0_pay168, k0_pay169, k0_pay170, k0_pay171, k0_pay173, k0_pay174]; simp only [L20, L21, L22, L23, L60, L61, L62, L63, L70, L71, L72, L73, L80, L81, L82, L83, L40, L41, L42, L43, L100, L101, L102, L103, L17]; rfl
    · by_cases hP : s.val = (i 1).val
      · by_cases hd : d.val / 512 = k.val
        · rw [if_pos ⟨hP, hd⟩, if_pos ⟨hP, by omega⟩]
        · rw [if_neg (fun h => hd h.2), h11]
          by_cases hd' : d.val < 512 * k.val
          · rw [if_pos ⟨hP, hd'⟩, if_pos ⟨hP, by omega⟩]
          · rw [if_neg (fun h => hd' h.2), if_neg (fun h => by have := h.2; omega)]
      · rw [if_neg (fun h => hP h.1), h11, if_neg (fun h => hP h.1), if_neg (fun h => hP h.1)]
  · iexists _; isplitr [HW_arg16]; rotate_left; iexact HW_arg16
    ipureintro; intro p d hd
    sl_unfold_run_names
    refine (Cert.Blocks.four2 arg16.view f_arg16 _ _ _ _ _ _ _ _ k.val T.g o30 o31 o32 o33 ?_ ?_ ?_ ?_ p d).trans ?_
    · intro p l d hd; obtain rfl : col (4 * k.val + 0) l = d := col_eq (by omega)
      pointwise; simp only [L20, L21, L22, L23, L60, L61, L62, L63, L70, L71, L72, L73, L80, L81, L82, L83, L40, L41, L42, L43, L100, L101, L102, L103, L17]; rfl
    · intro p l d hd; obtain rfl : col (4 * k.val + 1) l = d := col_eq (by omega)
      pointwise; simp only [L20, L21, L22, L23, L60, L61, L62, L63, L70, L71, L72, L73, L80, L81, L82, L83, L40, L41, L42, L43, L100, L101, L102, L103, L17]; rfl
    · intro p l d hd; obtain rfl : col (4 * k.val + 2) l = d := col_eq (by omega)
      pointwise; simp only [L20, L21, L22, L23, L60, L61, L62, L63, L70, L71, L72, L73, L80, L81, L82, L83, L40, L41, L42, L43, L100, L101, L102, L103, L17]; rfl
    · intro p l d hd; obtain rfl : col (4 * k.val + 3) l = d := col_eq (by omega)
      pointwise [k0_pay167, k0_pay168, k0_pay169, k0_pay170, k0_pay171, k0_pay173, k0_pay174]; simp only [L20, L21, L22, L23, L60, L61, L62, L63, L70, L71, L72, L73, L80, L81, L82, L83, L40, L41, L42, L43, L100, L101, L102, L103, L17]; rfl
    · by_cases hk' : d.val / 512 = k.val
      · rw [if_pos hk']
      · rw [if_neg hk']; exact h16 p d (by omega)

end Cert.KernelIdeal.Hand

end
-- ==== Proof.KernelIdealVal2.lean ====
/- Hand-written: one trip of the second loop over blocks of columns, with the values it stores. -/
module

public import proofs.«01_k».proof.Proof.KernelIdealExp
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- What the second loop holds after `k` trips: the columns done so far at their values. -/
abbrev Val_t2 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (X_arg2 : BufTy.Contents (Elt Ideal) arg2.view.ty) (X_arg4 : BufTy.Contents (Elt Ideal) arg4.view.ty) (X_arg5 : BufTy.Contents (Elt Ideal) arg5.view.ty) (X_arg17 : BufTy.Contents (Elt Ideal) arg17.view.ty) (T : Tile) (Y15 : Fin 8 → Fin 7168 → EReal) (k : ℕ) : sProp 𝕄 :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg17.view.loc (c : Thread nD τ) ↦[arg17.view.set]{fullShare} X_arg17) ∗ (∃ f, ⌜∀ (p : Fin 128) (d : Fin 7168), d.val < 512 * k → arg9.view.read (Elt Ideal) f (ix3 0 p d) = T.t p d⌝ ∗ (arg9.view.loc (c : Thread nD τ) ↦[arg9.view.set]{fullShare} f)) ∗ (∃ f, ⌜∀ (p : Fin 128) (d : Fin 7168), d.val < 512 * k → arg14.view.read (Elt Ideal) f (ix3 0 p d) = T.ccode p d⌝ ∗ (arg14.view.loc (c : Thread nD τ) ↦[arg14.view.set]{fullShare} f)) ∗ (∃ f, ⌜∀ (s : Fin 8) (d : Fin 7168), arg15.view.read (Elt Ideal) f (ix3 0 s d) = if s.val = (i 1).val ∧ d.val < 512 * k then scl (T.colE d) else Y15 s d⌝ ∗ (arg15.view.loc (c : Thread nD τ) ↦[arg15.view.set]{fullShare} f)) ∗ (∃ f, ⌜∀ (p : Fin 128) (d : Fin 7168), arg16.view.read (Elt Ideal) f (ix2 p d) = if d.val < 512 * k then T.t p d else T.g p d⌝ ∗ (arg16.view.loc (c : Thread nD τ) ↦[arg16.view.set]{fullShare} f)) ∗ (∃ f, ⌜∀ (p l : Fin 128), l.val < 4 * k → arg18.view.read (Elt Ideal) f (ix2 p l) = T.rowA p l.val⌝ ∗ (arg18.view.loc (c : Thread nD τ) ↦[arg18.view.set]{fullShare} f)))

set_option maxHeartbeats 4000000 in
/-- One trip stores its columns' values. -/
theorem vtrip_t2 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (v24 : IVec S8x128 1) (v35 : FVec Ideal S128x128 .f32) (v39 : IVec S128x128 32)
    (X_arg2 : BufTy.Contents (Elt Ideal) arg2.view.ty) (X_arg4 : BufTy.Contents (Elt Ideal) arg4.view.ty) (X_arg5 : BufTy.Contents (Elt Ideal) arg5.view.ty) (X_arg17 : BufTy.Contents (Elt Ideal) arg17.view.ty) (T : Tile) (Y15 : Fin 8 → Fin 7168 → EReal)
    (h2 : ∀ p d, arg2.view.read (Elt Ideal) X_arg2 (ix3 0 p d) = T.X p d) (h4 : ∀ d, arg4.view.read (Elt Ideal) X_arg4 (ix2 0 d) = T.Γ d) (h5 : ∀ p d, arg5.view.read (Elt Ideal) X_arg5 (ix3 0 p d) = T.D p d) (h17 : ∀ p l, arg17.view.read (Elt Ideal) X_arg17 (ix2 p l) = T.xk p)
    (h24 : ∀ s l, v24 (ix2 s l) = 1#1 ↔ s.val = (i 1).val) (h39 : ∀ p l : Fin 128, v39 (ix2 p l) = BitVec.ofNat 32 l.val)
    (k : Fin k0_t2_loop.trips) (E : Set ℕ) :
    Val_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 X_arg17 T Y15 k.val
    ⊢ wp frame (wpE (defs₀ (F := Ideal)) Variants.none (c : Thread nD τ) none) E (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v24 v35 v39 k PUnit.unit)
        (fun _ => Val_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 X_arg17 T Y15 (k.val + 1)) := by
  have hk : k.val < 14 := Nat.lt_of_lt_of_le k.isLt k0_t2_abs.2.1
  unfold k0_t2_body
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  iintro ⟨HR_arg2, HR_arg4, HR_arg5, HR_arg17, ⟨%f_arg9, %h9, HW_arg9⟩, ⟨%f_arg14, %h14, HW_arg14⟩, ⟨%f_arg15, %h15, HW_arg15⟩, ⟨%f_arg16, %h16, HW_arg16⟩, ⟨%f_arg18, %h18, HW_arg18⟩⟩
  sl_exec
  sl_step
  have o60 : k0_off6 k 0#32 = ![0, 512 * k.val + 128 * 0] := k0_off6_eq k ⟨0, by decide⟩
  have o61 : k0_off6 k 1#32 = ![0, 512 * k.val + 128 * 1] := k0_off6_eq k ⟨1, by decide⟩
  have o62 : k0_off6 k 2#32 = ![0, 512 * k.val + 128 * 2] := k0_off6_eq k ⟨2, by decide⟩
  have o63 : k0_off6 k 3#32 = ![0, 512 * k.val + 128 * 3] := k0_off6_eq k ⟨3, by decide⟩
  have o70 : k0_off7 k 0#32 = ![0, 512 * k.val + 128 * 0] := k0_off7_eq k ⟨0, by decide⟩
  have o71 : k0_off7 k 1#32 = ![0, 512 * k.val + 128 * 1] := k0_off7_eq k ⟨1, by decide⟩
  have o72 : k0_off7 k 2#32 = ![0, 512 * k.val + 128 * 2] := k0_off7_eq k ⟨2, by decide⟩
  have o73 : k0_off7 k 3#32 = ![0, 512 * k.val + 128 * 3] := k0_off7_eq k ⟨3, by decide⟩
  have o80 : k0_off8 k 0#32 = ![0, 0, 512 * k.val + 128 * 0] := k0_off8_eq k ⟨0, by decide⟩
  have o81 : k0_off8 k 1#32 = ![0, 0, 512 * k.val + 128 * 1] := k0_off8_eq k ⟨1, by decide⟩
  have o82 : k0_off8 k 2#32 = ![0, 0, 512 * k.val + 128 * 2] := k0_off8_eq k ⟨2, by decide⟩
  have o83 : k0_off8 k 3#32 = ![0, 0, 512 * k.val + 128 * 3] := k0_off8_eq k ⟨3, by decide⟩
  have o90 : k0_off9 k 0#32 = ![0, 0, 512 * k.val + 128 * 0] := k0_off9_eq k ⟨0, by decide⟩
  have o91 : k0_off9 k 1#32 = ![0, 0, 512 * k.val + 128 * 1] := k0_off9_eq k ⟨1, by decide⟩
  have o92 : k0_off9 k 2#32 = ![0, 0, 512 * k.val + 128 * 2] := k0_off9_eq k ⟨2, by decide⟩
  have o93 : k0_off9 k 3#32 = ![0, 0, 512 * k.val + 128 * 3] := k0_off9_eq k ⟨3, by decide⟩
  have hv : ∀ (u : ℕ) (l : Fin 128), u < 4 → (col (4 * k.val + u) l).val = 512 * k.val + 128 * u + l.val := by
    intro u l hu; show (128 * (4 * k.val + u) + l.val) % 7168 = _; omega
  have L20 : ∀ p l : Fin 128, arg2.view.readAt (Elt Ideal) (Rect.unit (s := S1x128x7168) (k0_off8 k 0#32) S1x128x128.size (k0_off8_inb k 0)).toLoadRect X_arg2 (ix3 0 p l) = T.X p (col (4 * k.val + 0) l) :=
    fun p l => (Cert.Blocks.load3 arg2.view X_arg2 (k0_off8_inb k 0) p l (col (4 * k.val + 0) l) _ o80 (hv 0 l (by omega))).trans (h2 p _)
  have L21 : ∀ p l : Fin 128, arg2.view.readAt (Elt Ideal) (Rect.unit (s := S1x128x7168) (k0_off8 k 1#32) S1x128x128.size (k0_off8_inb k 1)).toLoadRect X_arg2 (ix3 0 p l) = T.X p (col (4 * k.val + 1) l) :=
    fun p l => (Cert.Blocks.load3 arg2.view X_arg2 (k0_off8_inb k 1) p l (col (4 * k.val + 1) l) _ o81 (hv 1 l (by omega))).trans (h2 p _)
  have L22 : ∀ p l : Fin 128, arg2.view.readAt (Elt Ideal) (Rect.unit (s := S1x128x7168) (k0_off8 k 2#32) S1x128x128.size (k0_off8_inb k 2)).toLoadRect X_arg2 (ix3 0 p l) = T.X p (col (4 * k.val + 2) l) :=
    fun p l => (Cert.Blocks.load3 arg2.view X_arg2 (k0_off8_inb k 2) p l (col (4 * k.val + 2) l) _ o82 (hv 2 l (by omega))).trans (h2 p _)
  have L23 : ∀ p l : Fin 128, arg2.view.readAt (Elt Ideal) (Rect.unit (s := S1x128x7168) (k0_off8 k 3#32) S1x128x128.size (k0_off8_inb k 3)).toLoadRect X_arg2 (ix3 0 p l) = T.X p (col (4 * k.val + 3) l) :=
    fun p l => (Cert.Blocks.load3 arg2.view X_arg2 (k0_off8_inb k 3) p l (col (4 * k.val + 3) l) _ o83 (hv 3 l (by omega))).trans (h2 p _)
  have L50 : ∀ p l : Fin 128, arg5.view.readAt (Elt Ideal) (Rect.unit (s := S1x128x7168) (k0_off8 k 0#32) S1x128x128.size (k0_off8_inb k 0)).toLoadRect X_arg5 (ix3 0 p l) = T.D p (col (4 * k.val + 0) l) :=
    fun p l => (Cert.Blocks.load3 arg5.view X_arg5 (k0_off8_inb k 0) p l (col (4 * k.val + 0) l) _ o80 (hv 0 l (by omega))).trans (h5 p _)
  have L51 : ∀ p l : Fin 128, arg5.view.readAt (Elt Ideal) (Rect.unit (s := S1x128x7168) (k0_off8 k 1#32) S1x128x128.size (k0_off8_inb k 1)).toLoadRect X_arg5 (ix3 0 p l) = T.D p (col (4 * k.val + 1) l) :=
    fun p l => (Cert.Blocks.load3 arg5.view X_arg5 (k0_off8_inb k 1) p l (col (4 * k.val + 1) l) _ o81 (hv 1 l (by omega))).trans (h5 p _)
  have L52 : ∀ p l : Fin 128, arg5.view.readAt (Elt Ideal) (Rect.unit (s := S1x128x7168) (k0_off8 k 2#32) S1x128x128.size (k0_off8_inb k 2)).toLoadRect X_arg5 (ix3 0 p l) = T.D p (col (4 * k.val + 2) l) :=
    fun p l => (Cert.Blocks.load3 arg5.view X_arg5 (k0_off8_inb k 2) p l (col (4 * k.val + 2) l) _ o82 (hv 2 l (by omega))).trans (h5 p _)
  have L53 : ∀ p l : Fin 128, arg5.view.readAt (Elt Ideal) (Rect.unit (s := S1x128x7168) (k0_off8 k 3#32) S1x128x128.size (k0_off8_inb k 3)).toLoadRect X_arg5 (ix3 0 p l) = T.D p (col (4 * k.val + 3) l) :=
    fun p l => (Cert.Blocks.load3 arg5.view X_arg5 (k0_off8_inb k 3) p l (col (4 * k.val + 3) l) _ o83 (hv 3 l (by omega))).trans (h5 p _)
  have L40 : ∀ l : Fin 128, arg4.view.readAt (Elt Ideal) (Rect.unit (s := S1x7168) (k0_off7 k 0#32) S1x128.size (k0_off7_inb k 0)).toLoadRect X_arg4 (ix2 0 l) = T.Γ (col (4 * k.val + 0) l) :=
    fun l => (Cert.Blocks.load2 arg4.view X_arg4 (k0_off7_inb k 0) 0 l (col (4 * k.val + 0) l) _ o70 (hv 0 l (by omega))).trans (h4 _)
  have L160 : ∀ p l : Fin 128, arg16.view.readAt (Elt Ideal) (Rect.unit (s := S128x7168) (k0_off6 k 0#32) S128x128.size (k0_off6_inb k 0)).toLoadRect f_arg16 (ix2 p l) = T.g p (col (4 * k.val + 0) l) :=
    fun p l => (Cert.Blocks.load2 arg16.view f_arg16 (k0_off6_inb k 0) p l (col (4 * k.val + 0) l) _ o60 (hv 0 l (by omega))).trans
      ((h16 p _).trans (if_neg (by rw [hv 0 l (by omega)]; omega)))
  have L41 : ∀ l : Fin 128, arg4.view.readAt (Elt Ideal) (Rect.unit (s := S1x7168) (k0_off7 k 1#32) S1x128.size (k0_off7_inb k 1)).toLoadRect X_arg4 (ix2 0 l) = T.Γ (col (4 * k.val + 1) l) :=
    fun l => (Cert.Blocks.load2 arg4.view X_arg4 (k0_off7_inb k 1) 0 l (col (4 * k.val + 1) l) _ o71 (hv 1 l (by omega))).trans (h4 _)
  have L161 : ∀ p l : Fin 128, arg16.view.readAt (Elt Ideal) (Rect.unit (s := S128x7168) (k0_off6 k 1#32) S128x128.size (k0_off6_inb k 1)).toLoadRect f_arg16 (ix2 p l) = T.g p (col (4 * k.val + 1) l) :=
    fun p l => (Cert.Blocks.load2 arg16.view f_arg16 (k0_off6_inb k 1) p l (col (4 * k.val + 1) l) _ o61 (hv 1 l (by omega))).trans
      ((h16 p _).trans (if_neg (by rw [hv 1 l (by omega)]; omega)))
  have L42 : ∀ l : Fin 128, arg4.view.readAt (Elt Ideal) (Rect.unit (s := S1x7168) (k0_off7 k 2#32) S1x128.size (k0_off7_inb k 2)).toLoadRect X_arg4 (ix2 0 l) = T.Γ (col (4 * k.val + 2) l) :=
    fun l => (Cert.Blocks.load2 arg4.view X_arg4 (k0_off7_inb k 2) 0 l (col (4 * k.val + 2) l) _ o72 (hv 2 l (by omega))).trans (h4 _)
  have L162 : ∀ p l : Fin 128, arg16.view.readAt (Elt Ideal) (Rect.unit (s := S128x7168) (k0_off6 k 2#32) S128x128.size (k0_off6_inb k 2)).toLoadRect f_arg16 (ix2 p l) = T.g p (col (4 * k.val + 2) l) :=
    fun p l => (Cert.Blocks.load2 arg16.view f_arg16 (k0_off6_inb k 2) p l (col (4 * k.val + 2) l) _ o62 (hv 2 l (by omega))).trans
      ((h16 p _).trans (if_neg (by rw [hv 2 l (by omega)]; omega)))
  have L43 : ∀ l : Fin 128, arg4.view.readAt (Elt Ideal) (Rect.unit (s := S1x7168) (k0_off7 k 3#32) S1x128.size (k0_off7_inb k 3)).toLoadRect X_arg4 (ix2 0 l) = T.Γ (col (4 * k.val + 3) l) :=
    fun l => (Cert.Blocks.load2 arg4.view X_arg4 (k0_off7_inb k 3) 0 l (col (4 * k.val + 3) l) _ o73 (hv 3 l (by omega))).trans (h4 _)
  have L163 : ∀ p l : Fin 128, arg16.view.readAt (Elt Ideal) (Rect.unit (s := S128x7168) (k0_off6 k 3#32) S128x128.size (k0_off6_inb k 3)).toLoadRect f_arg16 (ix2 p l) = T.g p (col (4 * k.val + 3) l) :=
    fun p l => (Cert.Blocks.load2 arg16.view f_arg16 (k0_off6_inb k 3) p l (col (4 * k.val + 3) l) _ o63 (hv 3 l (by omega))).trans
      ((h16 p _).trans (if_neg (by rw [hv 3 l (by omega)]; omega)))
  have L17 : ∀ (inb : ∀ a : Fin 2, (![0, 0] : Fin 2 → ℕ) a + S128x128.size a ≤ S128x128.size a) (p l : Fin 128),
      arg17.view.readAt (Elt Ideal) (Rect.unit (s := S128x128) ![0, 0] S128x128.size inb).toLoadRect X_arg17 (ix2 p l) = T.xk p :=
    fun inb p l => (Cert.Blocks.load2 arg17.view X_arg17 inb p l l _ rfl (Nat.zero_add _).symm).trans (h17 p l)
  isplitl [HR_arg2]; · iexact HR_arg2
  isplitl [HR_arg4]; · iexact HR_arg4
  isplitl [HR_arg5]; · iexact HR_arg5
  isplitl [HR_arg17]; · iexact HR_arg17
  isplitl [HW_arg9]
  · iexists _; isplitr [HW_arg9]; rotate_left; iexact HW_arg9
    ipureintro
    intro p d hd
    sl_unfold_run_names
    refine (Cert.Blocks.four3 arg9.view f_arg9 (fun _ => True) (k0_off8_inb k 0) (k0_off8_inb k 1) (k0_off8_inb k 2) (k0_off8_inb k 3) _ _ _ _ _ _ _ _ k.val T.t o80 o81 o82 o83 (fun _ _ => by simp) (fun _ _ => by simp) (fun _ _ => by simp) (fun _ _ => by simp) ?_ ?_ ?_ ?_ p d).trans ?_
    · intro p l d hd; obtain rfl : col (4 * k.val + 0) l = d := col_eq (by omega)
      intro _; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 1) l = d := col_eq (by omega)
      intro _; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 2) l = d := col_eq (by omega)
      intro _; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 3) l = d := col_eq (by omega)
      intro _; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · by_cases hk' : d.val / 512 = k.val
      · rw [if_pos ⟨trivial, hk'⟩]
      · rw [if_neg (fun h => hk' h.2)]; exact h9 p d (by omega)
  isplitl [HW_arg14]
  · iexists _; isplitr [HW_arg14]; rotate_left; iexact HW_arg14
    ipureintro
    intro p d hd
    sl_unfold_run_names
    refine (Cert.Blocks.four3 arg14.view f_arg14 (fun _ => True) (k0_off8_inb k 0) (k0_off8_inb k 1) (k0_off8_inb k 2) (k0_off8_inb k 3) _ _ _ _ _ _ _ _ k.val T.ccode o80 o81 o82 o83 (fun _ _ => by simp) (fun _ _ => by simp) (fun _ _ => by simp) (fun _ _ => by simp) ?_ ?_ ?_ ?_ p d).trans ?_
    · intro p l d hd; obtain rfl : col (4 * k.val + 0) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 1) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 2) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 3) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · by_cases hk' : d.val / 512 = k.val
      · rw [if_pos ⟨trivial, hk'⟩]
      · rw [if_neg (fun h => hk' h.2)]; exact h14 p d (by omega)
  isplitl [HW_arg15]
  · iexists _; isplitr [HW_arg15]; rotate_left; iexact HW_arg15
    ipureintro
    intro s d
    sl_unfold_run_names
    refine (Cert.Blocks.four3 arg15.view f_arg15 (fun s => s.val = (i 1).val) _ _ _ _ _ _ _ _ _ _ _ _ k.val (fun _ d => scl (T.colE d)) o90 o91 o92 o93 ?_ ?_ ?_ ?_ ?_ ?_ ?_ ?_ s d).trans ?_
    · intro p l; rw [mem_on, ← h24 p l]; pointwise [k0_pay107, k0_pay125, k0_pay141, k0_pay159]
    · intro p l; rw [mem_on, ← h24 p l]; pointwise [k0_pay107, k0_pay125, k0_pay141, k0_pay159]
    · intro p l; rw [mem_on, ← h24 p l]; pointwise [k0_pay107, k0_pay125, k0_pay141, k0_pay159]
    · intro p l; rw [mem_on, ← h24 p l]; pointwise [k0_pay107, k0_pay125, k0_pay141, k0_pay159]
    · intro p l d hd; obtain rfl : col (4 * k.val + 0) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 1) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 2) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 3) l = d := col_eq (by omega)
      intro _; simp only [k0_pay106, k0_pay108, k0_pay124, k0_pay126, k0_pay140, k0_pay142, k0_pay158, k0_pay160, exp0, exp1, exp2, exp3]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [expV_apply]; pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · by_cases hP : s.val = (i 1).val
      · by_cases hd : d.val / 512 = k.val
        · rw [if_pos ⟨hP, hd⟩, if_pos ⟨hP, by omega⟩]
        · rw [if_neg (fun h => hd h.2), h15]
          by_cases hd' : d.val < 512 * k.val
          · rw [if_pos ⟨hP, hd'⟩, if_pos ⟨hP, by omega⟩]
          · rw [if_neg (fun h => hd' h.2), if_neg (fun h => by have := h.2; omega)]
      · rw [if_neg (fun h => hP h.1), h15, if_neg (fun h => hP h.1), if_neg (fun h => hP h.1)]
  isplitl [HW_arg16]
  · iexists _; isplitr [HW_arg16]; rotate_left; iexact HW_arg16
    ipureintro
    intro p d
    sl_unfold_run_names
    refine (Cert.Blocks.four2 arg16.view f_arg16 _ _ _ _ _ _ _ _ k.val T.t o60 o61 o62 o63 ?_ ?_ ?_ ?_ p d).trans ?_
    · intro p l d hd; obtain rfl : col (4 * k.val + 0) l = d := col_eq (by omega)
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 1) l = d := col_eq (by omega)
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 2) l = d := col_eq (by omega)
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · intro p l d hd; obtain rfl : col (4 * k.val + 3) l = d := col_eq (by omega)
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [L20, L21, L22, L23, L50, L51, L52, L53, L40, L41, L42, L43, L160, L161, L162, L163, L17]; rfl
    · by_cases hd : d.val / 512 = k.val
      · rw [if_pos hd, if_pos (by omega)]
      · rw [if_neg hd, h16]
        by_cases hd' : d.val < 512 * k.val
        · rw [if_pos hd', if_pos (by omega)]
        · rw [if_neg hd', if_neg (by omega)]
  · iexists _; isplitr [HW_arg18]; rotate_left; iexact HW_arg18
    ipureintro
    intro p l hl
    sl_unfold_run_names
    refine (Cert.Blocks.four_lanes arg18.view f_arg18 _ _ _ _ _ _ _ _ _ _ _ _ k.val (fun p l => T.rowA p l.val) rfl rfl rfl rfl ?_ ?_ ?_ ?_ ?_ ?_ ?_ ?_ p l).trans ?_
    · intro p l; clear L20 L21 L22 L23 L50 L51 L52 L53 L40 L41 L42 L43 L160 L161 L162 L163 L17 o60 o61 o62 o63 o70 o71 o72 o73 o80 o81 o82 o83 o90 o91 o92 o93; rw [mem_on]; pointwise [k0_pay110, k0_pay112, k0_pay128, k0_pay145, k0_pay179]; try simp only [h39]
      exact lane_word k.val hk 0 (by decide) l
    · intro p l; clear L20 L21 L22 L23 L50 L51 L52 L53 L40 L41 L42 L43 L160 L161 L162 L163 L17 o60 o61 o62 o63 o70 o71 o72 o73 o80 o81 o82 o83 o90 o91 o92 o93; rw [mem_on]; pointwise [k0_pay110, k0_pay112, k0_pay128, k0_pay145, k0_pay179]; try simp only [h39]
      exact lane_word k.val hk 1 (by decide) l
    · intro p l; clear L20 L21 L22 L23 L50 L51 L52 L53 L40 L41 L42 L43 L160 L161 L162 L163 L17 o60 o61 o62 o63 o70 o71 o72 o73 o80 o81 o82 o83 o90 o91 o92 o93; rw [mem_on]; pointwise [k0_pay110, k0_pay112, k0_pay128, k0_pay145, k0_pay179]; try simp only [h39]
      exact lane_word k.val hk 2 (by decide) l
    · intro p l; clear L20 L21 L22 L23 L50 L51 L52 L53 L40 L41 L42 L43 L160 L161 L162 L163 L17 o60 o61 o62 o63 o70 o71 o72 o73 o80 o81 o82 o83 o90 o91 o92 o93; rw [mem_on]; pointwise [k0_pay110, k0_pay112, k0_pay128, k0_pay145, k0_pay179]; try simp only [h39]
      exact lane_word k.val hk 3 (by decide) l
    · intro p l hl
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [hl, L20, L21, L22, L23, L50, L51, L52, L53, L40, L41, L42, L43, L160, L161, L162, L163, L17]; rfl
    · intro p l hl
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [hl, L20, L21, L22, L23, L50, L51, L52, L53, L40, L41, L42, L43, L160, L161, L162, L163, L17]; rfl
    · intro p l hl
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [hl, L20, L21, L22, L23, L50, L51, L52, L53, L40, L41, L42, L43, L160, L161, L162, L163, L17]; rfl
    · intro p l hl
      pointwise [k0_pay94, k0_pay95, k0_pay96, k0_pay97, k0_pay98, k0_pay106, k0_pay108, k0_pay109, k0_pay111, k0_pay113, k0_pay114, k0_pay115, k0_pay116, k0_pay117, k0_pay118, k0_pay124, k0_pay126, k0_pay127, k0_pay129, k0_pay130, k0_pay131, k0_pay132, k0_pay133, k0_pay134, k0_pay140, k0_pay142, k0_pay143, k0_pay144, k0_pay146, k0_pay147, k0_pay148, k0_pay149, k0_pay150, k0_pay158, k0_pay160, k0_pay177, k0_pay178]; simp only [hl, L20, L21, L22, L23, L50, L51, L52, L53, L40, L41, L42, L43, L160, L161, L162, L163, L17]; rfl
    · by_cases hk' : l.val / 4 = k.val
      · rw [if_pos hk']
      · rw [if_neg hk']; exact h18 p l (by omega)

end Cert.KernelIdeal.Hand

end
-- ==== Proof.KernelIdealVal3.lean ====
/- Hand-written: what the third loop, over wide blocks of columns, leaves of the row codes. -/
module

public import proofs.«01_k».proof.Proof.KernelIdealExp
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

theorem trip3_list (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (v158 : FVec Ideal S128x128 .bf16)
    (X_arg16 : BufTy.Contents (Elt Ideal) arg16.view.ty) (X_arg19 : BufTy.Contents (Elt Ideal) arg19.view.ty) (k : Fin k0_t3_loop.trips) :
    (trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v158 X_arg16 X_arg19 k).1
      = [⟨Rect.unit (s := S1x128x7168) (k0_off11 k) S1x128x1024.size (k0_off11_inb k),
          k0_pay1 v158 (arg19.view.readAt (Elt Ideal) (Rect.unit (s := S128x7168) (k0_off10 k) S128x1024.size (k0_off10_inb k)).toLoadRect X_arg19)
            (arg16.view.readAt (Elt Ideal) (Rect.unit (s := S128x7168) (k0_off10 k) S128x1024.size (k0_off10_inb k)).toLoadRect X_arg16)⟩] := by
  unfold trip_k0_t3; rfl

/-- The row codes of the columns done after `k` trips. -/
theorem read_pb3 (c : Dev nD) (i : grid0.Coords) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole) (v158 : FVec Ideal S128x128 .bf16)
    (X_arg16 : BufTy.Contents (Elt Ideal) arg16.view.ty) (X_arg19 : BufTy.Contents (Elt Ideal) arg19.view.ty)
    (G_arg12 : BufTy.Contents (Elt Ideal) arg12.view.ty) (T : Tile)
    (h16 : ∀ p d, arg16.view.read (Elt Ideal) X_arg16 (ix2 p d) = T.t p d)
    (h19 : ∀ (x : Fin 128) (d : Fin 7168), arg19.view.read (Elt Ideal) X_arg19 (ix2 x d) = if x.val = d.val / 128 then (1 : EReal) else 0)
    (hv : ∀ p x : Fin 128, x.val < 56 → v158 (ix2 p x) = scl (0 - T.rowE p x.val)) (k : ℕ) (hk : k ≤ 7) :
    ∀ (p : Fin 128) (d : Fin 7168), d.val < 1024 * k →
      arg12.view.read (Elt Ideal) (arg12.view.writes (Elt Ideal) G_arg12 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v158 X_arg16 X_arg19 k)) (ix3 0 p d)
        = T.rcode p d := by
  induction k with
  | zero => intro p d hd; omega
  | succ k ih =>
    intro p d hd
    have ht : k < k0_t3_loop.trips := by show k < 7; omega
    rw [show k + 1 = (⟨k, ht⟩ : Fin k0_t3_loop.trips).val + 1 from rfl, pb_k0_t3_succ]
    unfold tripL_k0_t3
    rw [trip3_list, List.singleton_append, View.writes_cons]
    have o10 : k0_off10 ⟨k, ht⟩ = ![0, 1024 * k] := k0_off10_eq ⟨k, ht⟩
    have o11 : k0_off11 ⟨k, ht⟩ = ![0, 0, 1024 * k] := k0_off11_eq ⟨k, ht⟩
    by_cases hk' : 1024 * k ≤ d.val
    · have hd' : d.val = 1024 * k + (⟨d.val - 1024 * k, by omega⟩ : Fin 1024).val := by show _ = _ + (_ - _); omega
      refine (Cert.Blocks.hit3 arg12.view _ (k0_off11_inb ⟨k, ht⟩) _ Finset.univ p d ⟨d.val - 1024 * k, by omega⟩ _ o11 hd' (Finset.mem_univ _)).trans ?_
      pointwise [k0_pay1]
      have L16 := fun p => (Cert.Blocks.load2 arg16.view X_arg16 (k0_off10_inb ⟨k, ht⟩) p ⟨d.val - 1024 * k, by omega⟩ d _ o10 hd').trans (h16 p d)
      have L19 := fun p => (Cert.Blocks.load2 arg19.view X_arg19 (k0_off10_inb ⟨k, ht⟩) p ⟨d.val - 1024 * k, by omega⟩ d _ o10 hd').trans (h19 p d)
      have hq : d.val / 128 < 56 := by omega
      have hs : (∑ x : Fin 128, v158 (ix2 p x) * (if x.val = d.val / 128 then (1 : EReal) else 0)) = scl (0 - T.rowE p (d.val / 128)) := by
        rw [Finset.sum_eq_single (⟨d.val / 128, by omega⟩ : Fin 128), if_pos rfl, hv _ _ hq]
        · exact mul_one _
        · intro b _ hb
          rw [if_neg (fun h => hb (Fin.ext h))]
          exact mul_zero _
        · intro h; exact absurd (Finset.mem_univ _) h
      simp only [L16, L19]
      rw [hs]
      rfl
    · refine (Cert.Blocks.miss3 arg12.view _ (k0_off11_inb ⟨k, ht⟩) _ Finset.univ p d _ o11 (by omega)).trans ?_
      exact ih (by omega) p d (by omega)

end Cert.KernelIdeal.Hand

end
-- ==== Proof.KernelIdealValKeep.lean ====
/- Hand-written: the body at one grid point, with the values it leaves. -/
module

public import proofs.«01_k».proof.Proof.KernelIdealVal1
public import proofs.«01_k».proof.Proof.KernelIdealVal2
public import proofs.«01_k».proof.Proof.KernelIdealVal3
public import Idealize.ShloMosaic.Lib.VecWindow
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The body's reset condition at a point: both grid coordinates zero. -/
abbrev resetAt (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

theorem ofBits_zero : Ideal.ofBits .f32 0x00000000#32 = (0 : EReal) := by
  simp [Ideal.ofBits, Ideal.ieee]

theorem lane39 (p l : Fin 128) : (iota .tc S128x128 32 [1] iota_S128x128_d1_w32 : IVec S128x128 32) (ix2 p l) = BitVec.ofNat 32 l.val := by
  pointwise

theorem acc_start {T : Tile} (p l : Fin 128) : k0_pay166 (F := Ideal) (ix2 p l) = T.acc (4 * 0) p l := by
  rw [Nat.mul_zero, Tile.acc_zero]
  exact ofBits_zero

theorem pay164_r (i : grid0.Coords) (v : FVec Ideal S2x128 .f32) (r : Fin 128 → EReal)
    (h : ∀ (p : Fin 128) (b : Fin 2), b.val = (i 0).val → v (ix2 b p) = r p) (p l : Fin 128) : k0_pay164 (F := Ideal) i v (ix2 p l) = r p := by
  pointwise [k0_pay164]
  have h0 : (i 0).val < 2 := (i 0).isLt
  rw [Finset.sum_eq_single (⟨(i 0).val, h0⟩ : Fin 2)]
  · rw [WordCmp.cmpi_eq_ofNat (by omega) (by omega)]
    simp only [Scalar.select, if_true]
    exact h p ⟨(i 0).val, h0⟩ rfl
  · intro b _ hb
    have hb2 := b.isLt
    rw [WordCmp.cmpi_eq_ofNat (by omega) (by omega)]
    have : ¬ b.val = (i 0).val := fun e => hb (Fin.ext e)
    simp [Scalar.select, this]
  · intro hh; exact absurd (Finset.mem_univ _) hh

theorem pay176_xk (v w : FVec Ideal S128x128 .f32) (T : Tile) (hv : ∀ p l, v (ix2 p l) = T.acc (4 * 14) p l) (hw : ∀ p l, w (ix2 p l) = T.r p)
    (p l : Fin 128) : k0_pay176 (F := Ideal) (k0_pay175 (F := Ideal) v w) (ix2 p l) = T.xk p := by
  pointwise [k0_pay175, k0_pay176]
  simp only [hv, hw]
  rfl

theorem exp4 (a : FVec Ideal S128x128 .f32) :
    k0_pay187 (F := Ideal) (k0_pay180 (F := Ideal) a) (k0_pay184 (F := Ideal) (k0_pay180 (F := Ideal) a) (k0_pay181 (F := Ideal) a) (k0_pay182 (F := Ideal) a) k0_pay183)
      (k0_pay185 (F := Ideal) (k0_pay180 (F := Ideal) a) (k0_pay181 (F := Ideal) a) (k0_pay182 (F := Ideal) a) k0_pay183) k0_pay186 = expV (k0_pay180 (F := Ideal) a) := rfl

/-- The exponents of a row's blocks, from the lanes that hold the blocks' largest magnitudes. -/
theorem exp4_apply (a : FVec Ideal S128x128 .f32) (T : Tile) (ha : ∀ p l : Fin 128, l.val < 56 → a (ix2 p l) = T.rowA p l.val)
    (p x : Fin 128) (hx : x.val < 56) : expV (k0_pay180 (F := Ideal) a) (ix2 p x) = T.rowE p x.val := by
  rw [expV_apply]
  pointwise [k0_pay180]
  rw [ha p x hx]
  rfl

theorem inv_scale (a : FVec Ideal S128x128 .f32) (T : Tile) (ha : ∀ p l : Fin 128, l.val < 56 → a (ix2 p l) = T.rowA p l.val)
    (p x : Fin 128) (hx : x.val < 56) :
    k0_pay189 (F := Ideal) (k0_pay180 (F := Ideal) a) (k0_pay184 (F := Ideal) (k0_pay180 (F := Ideal) a) (k0_pay181 (F := Ideal) a) (k0_pay182 (F := Ideal) a) k0_pay183)
      (k0_pay185 (F := Ideal) (k0_pay180 (F := Ideal) a) (k0_pay181 (F := Ideal) a) (k0_pay182 (F := Ideal) a) k0_pay183) k0_pay186 (ix2 p x) = scl (0 - T.rowE p x.val) := by
  rw [← exp4_apply a T ha p x hx, ← exp4]
  rfl

theorem scale13 (a : FVec Ideal S128x128 .f32) (T : Tile) (ha : ∀ p l : Fin 128, l.val < 56 → a (ix2 p l) = T.rowA p l.val)
    (p : Fin 128) (n : Fin 56) :
    k0_pay188 (F := Ideal) (k0_pay180 (F := Ideal) a) (k0_pay184 (F := Ideal) (k0_pay180 (F := Ideal) a) (k0_pay181 (F := Ideal) a) (k0_pay182 (F := Ideal) a) k0_pay183)
      (k0_pay185 (F := Ideal) (k0_pay180 (F := Ideal) a) (k0_pay181 (F := Ideal) a) (k0_pay182 (F := Ideal) a) k0_pay183) k0_pay186 (ix3 0 p n) = scl (T.rowE p n.val) := by
  have h := exp4_apply a T ha p ⟨n.val, by have := n.isLt; omega⟩ n.isLt
  rw [← exp4] at h
  pointwise [k0_pay188]
  rw [h]
  rfl

set_option maxHeartbeats 4000000 in
/-- The body at a point that goes on with its running sums: what it leaves, from the blocks it reads. -/
theorem valRun_keep (c : Dev nD) (i : grid0.Coords) (hc : ¬ (resetAt i = 1#1)) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (T : Tile) (Y10 : Fin 7168 → EReal) (Y11 Y15 : Fin 8 → Fin 7168 → EReal)
    (h2 : ∀ p d, arg2.view.read (Elt Ideal) X_arg2 (ix3 0 p d) = T.X p d)
    (h3 : ∀ (p : Fin 128) (b : Fin 2) (s : Fin 1024), b.val = (i 0).val → s.val = 128 * (i 1).val + p.val → arg3.view.read (Elt Ideal) X_arg3 (ix2 b s) = T.r p)
    (h4 : ∀ d, arg4.view.read (Elt Ideal) X_arg4 (ix2 0 d) = T.Γ d) (h5 : ∀ p d, arg5.view.read (Elt Ideal) X_arg5 (ix3 0 p d) = T.D p d)
    (h6 : ∀ p d, arg6.view.read (Elt Ideal) X_arg6 (ix3 0 p d) = T.Q p d) (h7 : ∀ p d, arg7.view.read (Elt Ideal) X_arg7 (ix3 0 p d) = T.K p d) (h8 : ∀ p d, arg8.view.read (Elt Ideal) X_arg8 (ix3 0 p d) = T.V p d) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f)) ∗ (∃ f, ⌜∀ d, arg10.view.read (Elt Ideal) f (ix2 0 d) = Y10 d⌝ ∗ (arg10.view.loc (c : Thread nD τ) ↦[arg10.view.set]{fullShare} f)) ∗ (∃ f, ⌜∀ (s : Fin 8) (d : Fin 7168), arg11.view.read (Elt Ideal) f (ix3 0 s d) = Y11 s d⌝ ∗ (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, ⌜∀ (s : Fin 8) (d : Fin 7168), arg15.view.read (Elt Ideal) f (ix3 0 s d) = Y15 s d⌝ ∗ (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, ⌜∀ (x : Fin 128) (d : Fin 7168), arg19.view.read (Elt Ideal) f (ix2 x d) = if x.val = d.val / 128 then (1 : EReal) else 0⌝ ∗ (arg19.view.loc (c : Thread nD τ) ↦[arg19.view.set]{fullShare} f))) : sProp 𝕄)
    ⊢ wp frame (wpE (defs₀ (F := Ideal)) Variants.none (c : Thread nD τ) none) Set.univ (cc0_junction_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, ⌜∀ (p : Fin 128) (d : Fin 7168), arg9.view.read (Elt Ideal) f (ix3 0 p d) = T.t p d⌝ ∗ (arg9.view.loc (c : Thread nD τ) ↦[arg9.view.set]{fullShare} f)) ∗ (∃ f, ⌜∀ d, arg10.view.read (Elt Ideal) f (ix2 0 d) = Y10 d + T.part d⌝ ∗ (arg10.view.loc (c : Thread nD τ) ↦[arg10.view.set]{fullShare} f)) ∗ (∃ f, ⌜∀ (s : Fin 8) (d : Fin 7168), arg11.view.read (Elt Ideal) f (ix3 0 s d) = if s.val = (i 1).val then T.part d else Y11 s d⌝ ∗ (arg11.view.loc (c : Thread nD τ) ↦[arg11.view.set]{fullShare} f)) ∗ (∃ f, ⌜∀ (p : Fin 128) (d : Fin 7168), arg12.view.read (Elt Ideal) f (ix3 0 p d) = T.rcode p d⌝ ∗ (arg12.view.loc (c : Thread nD τ) ↦[arg12.view.set]{fullShare} f)) ∗ (∃ f, ⌜∀ (p : Fin 128) (n : Fin 56), arg13.view.read (Elt Ideal) f (ix3 0 p n) = scl (T.rowE p n.val)⌝ ∗ (arg13.view.loc (c : Thread nD τ) ↦[arg13.view.set]{fullShare} f)) ∗ (∃ f, ⌜∀ (p : Fin 128) (d : Fin 7168), arg14.view.read (Elt Ideal) f (ix3 0 p d) = T.ccode p d⌝ ∗ (arg14.view.loc (c : Thread nD τ) ↦[arg14.view.set]{fullShare} f)) ∗ (∃ f, ⌜∀ (s : Fin 8) (d : Fin 7168), arg15.view.read (Elt Ideal) f (ix3 0 s d) = if s.val = (i 1).val then scl (T.colE d) else Y15 s d⌝ ∗ (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, ⌜∀ (x : Fin 128) (d : Fin 7168), arg19.view.read (Elt Ideal) f (ix2 x d) = if x.val = d.val / 128 then (1 : EReal) else 0⌝ ∗ (arg19.view.loc (c : Thread nD τ) ↦[arg19.view.set]{fullShare} f)))) := by
  simp only [cc0_junction_bwd_eq_skeleton]; unfold cc0_junction_bwd_skel
  simp only [k0_part32_eq_skeleton, k0_part33_eq_skeleton, k0_part34_eq_skeleton, k0_part35_eq_skeleton]
  unfold k0_part32_skel k0_part33_skel k0_part34_skel k0_part35_skel
  iintro ⟨HR_arg2, HR_arg3, HR_arg4, HR_arg5, HR_arg6, HR_arg7, HR_arg8, ⟨%f_arg9, HW_arg9⟩, ⟨%f_arg10, %h10, HW_arg10⟩, ⟨%f_arg11, %h11, HW_arg11⟩, ⟨%f_arg12, HW_arg12⟩, ⟨%f_arg13, HW_arg13⟩, ⟨%f_arg14, HW_arg14⟩, ⟨%f_arg15, %h15, HW_arg15⟩, ⟨%f_arg16, HW_arg16⟩, ⟨%f_arg17, HW_arg17⟩, ⟨%f_arg18, HW_arg18⟩, ⟨%f_arg19, %h19, HW_arg19⟩⟩
  sl_exec
  simp only [bind_assoc]
  ihave H17 : iprop(∃ X, ⌜∀ p l : Fin 128, arg17.view.read (Elt Ideal) X (ix2 p l) = T.r p⌝ ∗ (arg17.view.loc (c : Thread nD τ) ↦[arg17.view.set]{fullShare} X)) $$ [HW_arg17]
  · iexists _; isplitr [HW_arg17]; rotate_left; iexact HW_arg17
    ipureintro; intro p l
    sl_unfold_run_names
    refine (congrFun (View.read_writes_full arg17.view _ _ _ _) (ix2 p l)).trans (pay164_r i _ T.r ?_ p l)
    intro p b hb
    exact (Cert.Blocks.load2 arg3.view X_arg3 (k0_off1_inb i) b p ⟨128 * (i 1).val + p.val, by have h1 : (i 1).val < 8 := (i 1).isLt; have := p.isLt; omega⟩ _ (k0_off1_eq i) rfl).trans
      (h3 p b _ hb rfl)
  icases H17 with ⟨%X17, %h17, HW_arg17⟩
  iapply (Scf.wp_for_bind _ _ _ _ _ _ _ _ _ (fun k acc => Val_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X17 T Y10 Y11 k acc)
    (fun k acc => vtrip_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X17 T Y10 Y11 h2 h4 h6 h7 h8 h17 k acc Set.univ)) $$ [HR_arg2 HR_arg4 HR_arg6 HR_arg7 HR_arg8 HW_arg17 HW_arg10 HW_arg11 HW_arg16]
  · isplitr
    · ipureintro; intro p l; exact acc_start p l
    isplitl [HR_arg2]; · iexact HR_arg2
    isplitl [HR_arg4]; · iexact HR_arg4
    isplitl [HR_arg6]; · iexact HR_arg6
    isplitl [HR_arg7]; · iexact HR_arg7
    isplitl [HR_arg8]; · iexact HR_arg8
    isplitl [HW_arg17]; · iexact HW_arg17
    isplitl [HW_arg10]
    · iexists _; isplitr [HW_arg10]; rotate_left; iexact HW_arg10
      ipureintro; intro d; rw [if_neg (by omega)]; exact h10 d
    isplitl [HW_arg11]
    · iexists _; isplitr [HW_arg11]; rotate_left; iexact HW_arg11
      ipureintro; intro s d; rw [if_neg (fun h => by have := h.2; omega)]; exact h11 s d
    iexists _; isplitr [HW_arg16]; rotate_left; iexact HW_arg16
    ipureintro; intro p d hd; omega
  iintro %acc ⟨%hacc, HR_arg2, HR_arg4, HR_arg6, HR_arg7, HR_arg8, HW_arg17, ⟨%f1_arg10, %g10, HW_arg10⟩, ⟨%f1_arg11, %g11, HW_arg11⟩, ⟨%f1_arg16, %g16, HW_arg16⟩⟩
  rw [show Scf.trips k0_t1_loop.lb k0_t1_loop.ub k0_t1_loop.st = 14 from rfl] at hacc g10 g11 g16
  sl_exec
  simp only [bind_assoc]
  ihave H17 : iprop(∃ X, ⌜∀ p l : Fin 128, arg17.view.read (Elt Ideal) X (ix2 p l) = T.xk p⌝ ∗ (arg17.view.loc (c : Thread nD τ) ↦[arg17.view.set]{fullShare} X)) $$ [HW_arg17]
  · iexists _; isplitr [HW_arg17]; rotate_left; iexact HW_arg17
    ipureintro; intro p l
    sl_unfold_run_names
    exact (congrFun (View.read_writes_full arg17.view _ _ _ _) (ix2 p l)).trans (pay176_xk _ _ T hacc
      (fun p l => (Cert.Blocks.load2 arg17.view X17 _ p l l _ rfl (Nat.zero_add _).symm).trans (h17 p l)) p l)
  icases H17 with ⟨%Z17, %k17, HW_arg17⟩
  iapply (Scf.wp_for_bind _ _ _ _ _ _ _ _ _ (fun k _ => Val_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 Z17 T Y15 k)
    (fun k _ => vtrip_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ X_arg2 X_arg4 X_arg5 Z17 T Y15 h2 h4 h5 k17 (row_mask i) lane39 k Set.univ)) $$ [HR_arg2 HR_arg4 HR_arg5 HW_arg17 HW_arg9 HW_arg14 HW_arg15 HW_arg16 HW_arg18]
  · isplitl [HR_arg2]; · iexact HR_arg2
    isplitl [HR_arg4]; · iexact HR_arg4
    isplitl [HR_arg5]; · iexact HR_arg5
    isplitl [HW_arg17]; · iexact HW_arg17
    isplitl [HW_arg9]
    · iexists _; isplitr [HW_arg9]; rotate_left; iexact HW_arg9
      ipureintro; intro p d hd; omega
    isplitl [HW_arg14]
    · iexists _; isplitr [HW_arg14]; rotate_left; iexact HW_arg14
      ipureintro; intro p d hd; omega
    isplitl [HW_arg15]
    · iexists _; isplitr [HW_arg15]; rotate_left; iexact HW_arg15
      ipureintro; intro s d; rw [if_neg (fun h => by have := h.2; omega)]; exact h15 s d
    isplitl [HW_arg16]
    · iexists _; isplitr [HW_arg16]; rotate_left; iexact HW_arg16
      ipureintro; intro p d; rw [if_neg (by omega)]; exact g16 p d (by have := d.isLt; omega)
    iexists _; isplitr [HW_arg18]; rotate_left; iexact HW_arg18
    ipureintro; intro p l hl; omega
  iintro %u ⟨HR_arg2, HR_arg4, HR_arg5, HW_arg17, ⟨%f2_arg9, %g9, HW_arg9⟩, ⟨%f2_arg14, %g14, HW_arg14⟩, ⟨%f2_arg15, %g15, HW_arg15⟩, ⟨%f2_arg16, %k16, HW_arg16⟩, ⟨%f2_arg18, %g18, HW_arg18⟩⟩
  rw [show Scf.trips k0_t2_loop.lb k0_t2_loop.ub k0_t2_loop.st = 14 from rfl] at g9 g14 g15 k16 g18
  have L18 : ∀ (inb : ∀ a : Fin 2, (![0, 0] : Fin 2 → ℕ) a + S128x128.size a ≤ S128x128.size a) (p l : Fin 128), l.val < 56 →
      arg18.view.readAt (Elt Ideal) (Rect.unit (s := S128x128) ![0, 0] S128x128.size inb).toLoadRect f2_arg18 (ix2 p l) = T.rowA p l.val :=
    fun inb p l hl => (Cert.Blocks.load2 arg18.view f2_arg18 inb p l l _ rfl (Nat.zero_add _).symm).trans (g18 p l (by omega))
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HW_arg9]
  · iexists _; isplitr [HW_arg9]; rotate_left; iexact HW_arg9
    ipureintro
    intro p d; exact g9 p d (by have := d.isLt; omega)
  isplitl [HW_arg10]
  · iexists _; isplitr [HW_arg10]; rotate_left; iexact HW_arg10
    ipureintro
    intro d; rw [g10 d, if_pos (by have := d.isLt; omega)]
  isplitl [HW_arg11]
  · iexists _; isplitr [HW_arg11]; rotate_left; iexact HW_arg11
    ipureintro
    intro s d; rw [g11 s d]; have := d.isLt
    by_cases hs : s.val = (i 1).val
    · rw [if_pos ⟨hs, by omega⟩, if_pos hs]
    · rw [if_neg (fun h => hs h.1), if_neg hs]
  isplitl [HW_arg12]
  · iexists _; isplitr [HW_arg12]; rotate_left; iexact HW_arg12
    ipureintro
    intro p d
    exact read_pb3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ f2_arg16 f_arg19 f_arg12 T (fun p d => (k16 p d).trans (if_pos (by have := d.isLt; omega))) h19
      (inv_scale _ T (L18 _)) k0_t3_loop.trips (le_of_eq rfl) p d (by have := d.isLt; have e : k0_t3_loop.trips = 7 := rfl; omega)
  isplitl [HW_arg13]
  · iexists _; isplitr [HW_arg13]; rotate_left; iexact HW_arg13
    ipureintro
    intro p n
    sl_unfold_run_names
    exact (congrFun (View.read_writes_full arg13.view _ _ _ _) (ix3 0 p n)).trans (scale13 _ T (L18 _) p n)
  isplitl [HW_arg14]
  · iexists _; isplitr [HW_arg14]; rotate_left; iexact HW_arg14
    ipureintro
    intro p d; exact g14 p d (by have := d.isLt; omega)
  isplitl [HW_arg15]
  · iexists _; isplitr [HW_arg15]; rotate_left; iexact HW_arg15
    ipureintro
    intro s d; rw [g15 s d]; have := d.isLt
    by_cases hs : s.val = (i 1).val
    · rw [if_pos ⟨hs, by omega⟩, if_pos hs]
    · rw [if_neg (fun h => hs h.1), if_neg hs]
  isplitl [HW_arg16]; · iexists _; iexact HW_arg16
  isplitl [HW_arg17]; · iexists _; iexact HW_arg17
  isplitl [HW_arg18]; · iexists _; iexact HW_arg18
  iexists _; isplitr [HW_arg19]; rotate_left; iexact HW_arg19
  ipureintro
  exact h19

end Cert.KernelIdeal.Hand

end
-- ==== Proof.KernelIdealValReset.lean ====
/- Hand-written: the body at one grid point, with the values it leaves. -/
module

public import proofs.«01_k».proof.Proof.KernelIdealValKeep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The indicator of row `n`, as the kernel makes it. -/
def hot (n : ℕ) : FVec Ideal S128x128 .bf16 :=
  shapeCast S128x128 (truncf .bf16 (sitofp .f32 (extui 32 (cmpi .eq (iota .tc S128x128 32 [0] iota_S128x128_d0_w32)
    (broadcast S128x128 (BitVec.ofNat 32 n))) natLt_1_32) : FVec Ideal S128x128 .f32) bitsLt_bf16_f32) shapeCasts_S128x128_S128x128

theorem hot_apply (n : ℕ) (hn : n < 56) (x l : Fin 128) : hot n (ix2 x l) = if x.val = n then (1 : EReal) else 0 := by
  have hx := x.isLt
  pointwise [hot]
  rw [WordCmp.cmpi_eq_ofNat (by omega) (by omega)]
  by_cases h : x.val = n
  · simp only [h, if_true]
    show (((1#32 : BitVec 32).toInt : ℝ) : EReal) = 1
    norm_num
  · simp only [h, if_false]
    show (((0#32 : BitVec 32).toInt : ℝ) : EReal) = 0
    norm_num

/-- The rows' indicators, in the columns stored so far. -/
def HotBelow (arg19 : Memref sig .tc .vmem S128x7168 .bf16) (n : ℕ) (X : BufTy.Contents (Elt Ideal) arg19.view.ty) : Prop :=
  ∀ (x : Fin 128) (d : Fin 7168), d.val < 128 * n → arg19.view.read (Elt Ideal) X (ix2 x d) = if x.val = d.val / 128 then (1 : EReal) else 0

theorem hotBelow_all (arg19 : Memref sig .tc .vmem S128x7168 .bf16) (X : BufTy.Contents (Elt Ideal) arg19.view.ty) (h : HotBelow arg19 56 X)
    (x : Fin 128) (d : Fin 7168) : arg19.view.read (Elt Ideal) X (ix2 x d) = if x.val = d.val / 128 then (1 : EReal) else 0 :=
  h x d (by have := d.isLt; omega)

theorem hotBelow_cons (arg19 : Memref sig .tc .vmem S128x7168 .bf16) (f : BufTy.Contents (Elt Ideal) arg19.view.ty)
    (L : List (View.Piece (Elt Ideal) S128x7168 .bf16)) (n : ℕ)
    (inb : ∀ a : Fin 2, (![0, 128 * n] : Fin 2 → ℕ) a + (![128, 128] : Fin 2 → ℕ) a ≤ (![128, 7168] : Fin 2 → ℕ) a) (w : FVec Ideal S128x128 .bf16)
    (hw : w = hot n) (h : HotBelow arg19 n (arg19.view.writes (Elt Ideal) f L)) :
    HotBelow arg19 (n + 1) (arg19.view.writes (Elt Ideal) f (⟨Rect.unit (s := S128x7168) ![0, 128 * n] ![128, 128] inb, w⟩ :: L)) := by
  subst hw
  intro x d hd
  have hn : 128 * n + 128 ≤ 7168 := inb 1
  rw [View.writes_cons]
  by_cases hd' : 128 * n ≤ d.val
  · refine (Cert.Blocks.hit2 arg19.view _ inb _ x d ⟨d.val - 128 * n, by omega⟩ (128 * n) rfl (by show _ = _ + (_ - _); omega)).trans ?_
    refine (hot_apply n (by omega) x _).trans ?_
    rw [show d.val / 128 = n by omega]
  · exact (Cert.Blocks.miss2 arg19.view _ inb _ x d (128 * n) rfl (by omega)).trans (h x d (by omega))

set_option maxHeartbeats 4000000 in
/-- The body at a point that clears its running sums first: what it leaves, from the blocks it reads. -/
theorem valRun_reset (c : Dev nD) (i : grid0.Coords) (hc : resetAt i = 1#1) (arg2 : Memref sig .tc .vmem S1x128x7168 .bf16) (harg2 : arg2.IsWhole) (arg3 : Memref sig .tc .vmem S2x1024 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x128x7168 .bf16) (harg6 : arg6.IsWhole) (arg7 : Memref sig .tc .vmem S1x128x7168 .bf16) (harg7 : arg7.IsWhole) (arg8 : Memref sig .tc .vmem S1x128x7168 .bf16) (harg8 : arg8.IsWhole) (arg9 : Memref sig .tc .vmem S1x128x7168 .bf16) (harg9 : arg9.IsWhole) (arg10 : Memref sig .tc .vmem S1x7168 .f32) (harg10 : arg10.IsWhole) (arg11 : Memref sig .tc .vmem S1x8x7168 .f32) (harg11 : arg11.IsWhole) (arg12 : Memref sig .tc .vmem S1x128x7168 .fp8e4m3) (harg12 : arg12.IsWhole) (arg13 : Memref sig .tc .vmem S1x128x56 .f32) (harg13 : arg13.IsWhole) (arg14 : Memref sig .tc .vmem S1x128x7168 .fp8e4m3) (harg14 : arg14.IsWhole) (arg15 : Memref sig .tc .vmem S1x8x7168 .f32) (harg15 : arg15.IsWhole) (arg16 : Memref sig .tc .vmem S128x7168 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x7168 .bf16) (harg19 : arg19.IsWhole)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (T : Tile) (Y11 Y15 : Fin 8 → Fin 7168 → EReal)
    (h2 : ∀ p d, arg2.view.read (Elt Ideal) X_arg2 (ix3 0 p d) = T.X p d)
    (h3 : ∀ (p : Fin 128) (b : Fin 2) (s : Fin 1024), b.val = (i 0).val → s.val = 128 * (i 1).val + p.val → arg3.view.read (Elt Ideal) X_arg3 (ix2 b s) = T.r p)
    (h4 : ∀ d, arg4.view.read (Elt Ideal) X_arg4 (ix2 0 d) = T.Γ d) (h5 : ∀ p d, arg5.view.read (Elt Ideal) X_arg5 (ix3 0 p d) = T.D p d)
    (h6 : ∀ p d, arg6.view.read (Elt Ideal) X_arg6 (ix3 0 p d) = T.Q p d) (h7 : ∀ p d, arg7.view.read (Elt Ideal) X_arg7 (ix3 0 p d) = T.K p d) (h8 : ∀ p d, arg8.view.read (Elt Ideal) X_arg8 (ix3 0 p d) = T.V p d) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f)) ∗ (∃ f, (arg10.view.loc (c : Thread nD τ) ↦[arg10.view.set]{fullShare} f)) ∗ (∃ f, ⌜∀ (s : Fin 8) (d : Fin 7168), arg11.view.read (Elt Ideal) f (ix3 0 s d) = Y11 s d⌝ ∗ (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, ⌜∀ (s : Fin 8) (d : Fin 7168), arg15.view.read (Elt Ideal) f (ix3 0 s d) = Y15 s d⌝ ∗ (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) : sProp 𝕄)
    ⊢ wp frame (wpE (defs₀ (F := Ideal)) Variants.none (c : Thread nD τ) none) Set.univ (cc0_junction_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, ⌜∀ (p : Fin 128) (d : Fin 7168), arg9.view.read (Elt Ideal) f (ix3 0 p d) = T.t p d⌝ ∗ (arg9.view.loc (c : Thread nD τ) ↦[arg9.view.set]{fullShare} f)) ∗ (∃ f, ⌜∀ d, arg10.view.read (Elt Ideal) f (ix2 0 d) = 0 + T.part d⌝ ∗ (arg10.view.loc (c : Thread nD τ) ↦[arg10.view.set]{fullShare} f)) ∗ (∃ f, ⌜∀ (s : Fin 8) (d : Fin 7168), arg11.view.read (Elt Ideal) f (ix3 0 s d) = if s.val = (i 1).val then T.part d else Y11 s d⌝ ∗ (arg11.view.loc (c : Thread nD τ) ↦[arg11.view.set]{fullShare} f)) ∗ (∃ f, ⌜∀ (p : Fin 128) (d : Fin 7168), arg12.view.read (Elt Ideal) f (ix3 0 p d) = T.rcode p d⌝ ∗ (arg12.view.loc (c : Thread nD τ) ↦[arg12.view.set]{fullShare} f)) ∗ (∃ f, ⌜∀ (p : Fin 128) (n : Fin 56), arg13.view.read (Elt Ideal) f (ix3 0 p n) = scl (T.rowE p n.val)⌝ ∗ (arg13.view.loc (c : Thread nD τ) ↦[arg13.view.set]{fullShare} f)) ∗ (∃ f, ⌜∀ (p : Fin 128) (d : Fin 7168), arg14.view.read (Elt Ideal) f (ix3 0 p d) = T.ccode p d⌝ ∗ (arg14.view.loc (c : Thread nD τ) ↦[arg14.view.set]{fullShare} f)) ∗ (∃ f, ⌜∀ (s : Fin 8) (d : Fin 7168), arg15.view.read (Elt Ideal) f (ix3 0 s d) = if s.val = (i 1).val then scl (T.colE d) else Y15 s d⌝ ∗ (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, ⌜∀ (x : Fin 128) (d : Fin 7168), arg19.view.read (Elt Ideal) f (ix2 x d) = if x.val = d.val / 128 then (1 : EReal) else 0⌝ ∗ (arg19.view.loc (c : Thread nD τ) ↦[arg19.view.set]{fullShare} f)))) := by
  simp only [cc0_junction_bwd_eq_skeleton]; unfold cc0_junction_bwd_skel
  simp only [k0_part32_eq_skeleton, k0_part33_eq_skeleton, k0_part34_eq_skeleton, k0_part35_eq_skeleton]
  unfold k0_part32_skel k0_part33_skel k0_part34_skel k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  iintro ⟨HR_arg2, HR_arg3, HR_arg4, HR_arg5, HR_arg6, HR_arg7, HR_arg8, ⟨%f_arg9, HW_arg9⟩, ⟨%f_arg10, HW_arg10⟩, ⟨%f_arg11, %h11, HW_arg11⟩, ⟨%f_arg12, HW_arg12⟩, ⟨%f_arg13, HW_arg13⟩, ⟨%f_arg14, HW_arg14⟩, ⟨%f_arg15, %h15, HW_arg15⟩, ⟨%f_arg16, HW_arg16⟩, ⟨%f_arg17, HW_arg17⟩, ⟨%f_arg18, HW_arg18⟩, ⟨%f_arg19, HW_arg19⟩⟩
  sl_exec
  simp only [bind_assoc]
  ihave H17 : iprop(∃ X, ⌜∀ p l : Fin 128, arg17.view.read (Elt Ideal) X (ix2 p l) = T.r p⌝ ∗ (arg17.view.loc (c : Thread nD τ) ↦[arg17.view.set]{fullShare} X)) $$ [HW_arg17]
  · iexists _; isplitr [HW_arg17]; rotate_left; iexact HW_arg17
    ipureintro; intro p l
    sl_unfold_run_names
    refine (congrFun (View.read_writes_full arg17.view _ _ _ _) (ix2 p l)).trans (pay164_r i _ T.r ?_ p l)
    intro p b hb
    exact (Cert.Blocks.load2 arg3.view X_arg3 (k0_off1_inb i) b p ⟨128 * (i 1).val + p.val, by have h1 : (i 1).val < 8 := (i 1).isLt; have := p.isLt; omega⟩ _ (k0_off1_eq i) rfl).trans
      (h3 p b _ hb rfl)
  icases H17 with ⟨%X17, %h17, HW_arg17⟩
  ihave H10 : iprop(∃ X, ⌜∀ d, arg10.view.read (Elt Ideal) X (ix2 0 d) = (0 : EReal)⌝ ∗ (arg10.view.loc (c : Thread nD τ) ↦[arg10.view.set]{fullShare} X)) $$ [HW_arg10]
  · iexists _; isplitr [HW_arg10]; rotate_left; iexact HW_arg10
    ipureintro; intro d
    sl_unfold_run_names
    exact (congrFun (View.read_writes_full arg10.view _ _ _ _) (ix2 0 d)).trans ofBits_zero
  icases H10 with ⟨%X10, %h10, HW_arg10⟩
  ihave H19 : iprop(∃ f, ⌜∀ (x : Fin 128) (d : Fin 7168), arg19.view.read (Elt Ideal) f (ix2 x d) = if x.val = d.val / 128 then (1 : EReal) else 0⌝ ∗ (arg19.view.loc (c : Thread nD τ) ↦[arg19.view.set]{fullShare} f)) $$ [HW_arg19]
  · iexists _; isplitr [HW_arg19]; rotate_left; iexact HW_arg19
    ipureintro
    sl_unfold_run_names
    refine hotBelow_all arg19 _ ?_
    refine hotBelow_cons arg19 _ _ 55 _ _ rfl ?_
    refine hotBelow_cons arg19 _ _ 54 _ _ rfl ?_
    refine hotBelow_cons arg19 _ _ 53 _ _ rfl ?_
    refine hotBelow_cons arg19 _ _ 52 _ _ rfl ?_
    refine hotBelow_cons arg19 _ _ 51 _ _ rfl ?_
    refine hotBelow_cons arg19 _ _ 50 _ _ rfl ?_
    refine hotBelow_cons arg19 _ _ 49 _ _ rfl ?_
    refine hotBelow_cons arg19 _ _ 48 _ _ rfl ?_
    refine hotBelow_cons arg19 _ _ 47 _ _ rfl ?_
    refine hotBelow_cons arg19 _ _ 46 _ _ rfl ?_
    refine hotBelow_cons arg19 _ _ 45 _ _ rfl ?_
    refine hotBelow_cons arg19 _ _ 44 _ _ rfl ?_
    refine hotBelow_cons arg19 _ _ 43 _ _ rfl ?_
    refine hotBelow_cons arg19 _ _ 42 _ _ rfl ?_
    refine hotBelow_cons arg19 _ _ 41 _ _ rfl ?_
    refine hotBelow_cons arg19 _ _ 40 _ _ rfl ?_
    refine hotBelow_cons arg19 _ _ 39 _ _ rfl ?_
    refine hotBelow_cons arg19 _ _ 38 _ _ rfl ?_
    refine hotBelow_cons arg19 _ _ 37 _ _ rfl ?_
    refine hotBelow_cons arg19 _ _ 36 _ _ rfl ?_
    refine hotBelow_cons arg19 _ _ 35 _ _ rfl ?_
    refine hotBelow_cons arg19 _ _ 34 _ _ rfl ?_
    refine hotBelow_cons arg19 _ _ 33 _ _ rfl ?_
    refine hotBelow_cons arg19 _ _ 32 _ _ rfl ?_
    refine hotBelow_cons arg19 _ _ 31 _ _ rfl ?_
    refine hotBelow_cons arg19 _ _ 30 _ _ rfl ?_
    refine hotBelow_cons arg19 _ _ 29 _ _ rfl ?_
    refine hotBelow_cons arg19 _ _ 28 _ _ rfl ?_
    refine hotBelow_cons arg19 _ _ 27 _ _ rfl ?_
    refine hotBelow_cons arg19 _ _ 26 _ _ rfl ?_
    refine hotBelow_cons arg19 _ _ 25 _ _ rfl ?_
    refine hotBelow_cons arg19 _ _ 24 _ _ rfl ?_
    refine hotBelow_cons arg19 _ _ 23 _ _ rfl ?_
    refine hotBelow_cons arg19 _ _ 22 _ _ rfl ?_
    refine hotBelow_cons arg19 _ _ 21 _ _ rfl ?_
    refine hotBelow_cons arg19 _ _ 20 _ _ rfl ?_
    refine hotBelow_cons arg19 _ _ 19 _ _ rfl ?_
    refine hotBelow_cons arg19 _ _ 18 _ _ rfl ?_
    refine hotBelow_cons arg19 _ _ 17 _ _ rfl ?_
    refine hotBelow_cons arg19 _ _ 16 _ _ rfl ?_
    refine hotBelow_cons arg19 _ _ 15 _ _ rfl ?_
    refine hotBelow_cons arg19 _ _ 14 _ _ rfl ?_
    refine hotBelow_cons arg19 _ _ 13 _ _ rfl ?_
    refine hotBelow_cons arg19 _ _ 12 _ _ rfl ?_
    refine hotBelow_cons arg19 _ _ 11 _ _ rfl ?_
    refine hotBelow_cons arg19 _ _ 10 _ _ rfl ?_
    refine hotBelow_cons arg19 _ _ 9 _ _ rfl ?_
    refine hotBelow_cons arg19 _ _ 8 _ _ rfl ?_
    refine hotBelow_cons arg19 _ _ 7 _ _ rfl ?_
    refine hotBelow_cons arg19 _ _ 6 _ _ rfl ?_
    refine hotBelow_cons arg19 _ _ 5 _ _ rfl ?_
    refine hotBelow_cons arg19 _ _ 4 _ _ rfl ?_
    refine hotBelow_cons arg19 _ _ 3 _ _ rfl ?_
    refine hotBelow_cons arg19 _ _ 2 _ _ rfl ?_
    refine hotBelow_cons arg19 _ _ 1 _ _ rfl ?_
    refine hotBelow_cons arg19 _ _ 0 _ _ rfl ?_
    intro x d hd; omega
  icases H19 with ⟨%X19, %h19, HW_arg19⟩
  iapply (Scf.wp_for_bind _ _ _ _ _ _ _ _ _ (fun k acc => Val_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X17 T (fun _ => (0 : EReal)) Y11 k acc)
    (fun k acc => vtrip_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg6 X_arg7 X_arg8 X17 T (fun _ => (0 : EReal)) Y11 h2 h4 h6 h7 h8 h17 k acc Set.univ)) $$ [HR_arg2 HR_arg4 HR_arg6 HR_arg7 HR_arg8 HW_arg17 HW_arg10 HW_arg11 HW_arg16]
  · isplitr
    · ipureintro; intro p l; exact acc_start p l
    isplitl [HR_arg2]; · iexact HR_arg2
    isplitl [HR_arg4]; · iexact HR_arg4
    isplitl [HR_arg6]; · iexact HR_arg6
    isplitl [HR_arg7]; · iexact HR_arg7
    isplitl [HR_arg8]; · iexact HR_arg8
    isplitl [HW_arg17]; · iexact HW_arg17
    isplitl [HW_arg10]
    · iexists _; isplitr [HW_arg10]; rotate_left; iexact HW_arg10
      ipureintro; intro d; rw [if_neg (by omega)]; exact h10 d
    isplitl [HW_arg11]
    · iexists _; isplitr [HW_arg11]; rotate_left; iexact HW_arg11
      ipureintro; intro s d; rw [if_neg (fun h => by have := h.2; omega)]; exact h11 s d
    iexists _; isplitr [HW_arg16]; rotate_left; iexact HW_arg16
    ipureintro; intro p d hd; omega
  iintro %acc ⟨%hacc, HR_arg2, HR_arg4, HR_arg6, HR_arg7, HR_arg8, HW_arg17, ⟨%f1_arg10, %g10, HW_arg10⟩, ⟨%f1_arg11, %g11, HW_arg11⟩, ⟨%f1_arg16, %g16, HW_arg16⟩⟩
  rw [show Scf.trips k0_t1_loop.lb k0_t1_loop.ub k0_t1_loop.st = 14 from rfl] at hacc g10 g11 g16
  sl_exec
  simp only [bind_assoc]
  ihave H17 : iprop(∃ X, ⌜∀ p l : Fin 128, arg17.view.read (Elt Ideal) X (ix2 p l) = T.xk p⌝ ∗ (arg17.view.loc (c : Thread nD τ) ↦[arg17.view.set]{fullShare} X)) $$ [HW_arg17]
  · iexists _; isplitr [HW_arg17]; rotate_left; iexact HW_arg17
    ipureintro; intro p l
    sl_unfold_run_names
    exact (congrFun (View.read_writes_full arg17.view _ _ _ _) (ix2 p l)).trans (pay176_xk _ _ T hacc
      (fun p l => (Cert.Blocks.load2 arg17.view X17 _ p l l _ rfl (Nat.zero_add _).symm).trans (h17 p l)) p l)
  icases H17 with ⟨%Z17, %k17, HW_arg17⟩
  iapply (Scf.wp_for_bind _ _ _ _ _ _ _ _ _ (fun k _ => Val_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg2 X_arg4 X_arg5 Z17 T Y15 k)
    (fun k _ => vtrip_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ X_arg2 X_arg4 X_arg5 Z17 T Y15 h2 h4 h5 k17 (row_mask i) lane39 k Set.univ)) $$ [HR_arg2 HR_arg4 HR_arg5 HW_arg17 HW_arg9 HW_arg14 HW_arg15 HW_arg16 HW_arg18]
  · isplitl [HR_arg2]; · iexact HR_arg2
    isplitl [HR_arg4]; · iexact HR_arg4
    isplitl [HR_arg5]; · iexact HR_arg5
    isplitl [HW_arg17]; · iexact HW_arg17
    isplitl [HW_arg9]
    · iexists _; isplitr [HW_arg9]; rotate_left; iexact HW_arg9
      ipureintro; intro p d hd; omega
    isplitl [HW_arg14]
    · iexists _; isplitr [HW_arg14]; rotate_left; iexact HW_arg14
      ipureintro; intro p d hd; omega
    isplitl [HW_arg15]
    · iexists _; isplitr [HW_arg15]; rotate_left; iexact HW_arg15
      ipureintro; intro s d; rw [if_neg (fun h => by have := h.2; omega)]; exact h15 s d
    isplitl [HW_arg16]
    · iexists _; isplitr [HW_arg16]; rotate_left; iexact HW_arg16
      ipureintro; intro p d; rw [if_neg (by omega)]; exact g16 p d (by have := d.isLt; omega)
    iexists _; isplitr [HW_arg18]; rotate_left; iexact HW_arg18
    ipureintro; intro p l hl; omega
  iintro %u ⟨HR_arg2, HR_arg4, HR_arg5, HW_arg17, ⟨%f2_arg9, %g9, HW_arg9⟩, ⟨%f2_arg14, %g14, HW_arg14⟩, ⟨%f2_arg15, %g15, HW_arg15⟩, ⟨%f2_arg16, %k16, HW_arg16⟩, ⟨%f2_arg18, %g18, HW_arg18⟩⟩
  rw [show Scf.trips k0_t2_loop.lb k0_t2_loop.ub k0_t2_loop.st = 14 from rfl] at g9 g14 g15 k16 g18
  have L18 : ∀ (inb : ∀ a : Fin 2, (![0, 0] : Fin 2 → ℕ) a + S128x128.size a ≤ S128x128.size a) (p l : Fin 128), l.val < 56 →
      arg18.view.readAt (Elt Ideal) (Rect.unit (s := S128x128) ![0, 0] S128x128.size inb).toLoadRect f2_arg18 (ix2 p l) = T.rowA p l.val :=
    fun inb p l hl => (Cert.Blocks.load2 arg18.view f2_arg18 inb p l l _ rfl (Nat.zero_add _).symm).trans (g18 p l (by omega))
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HW_arg9]
  · iexists _; isplitr [HW_arg9]; rotate_left; iexact HW_arg9
    ipureintro
    intro p d; exact g9 p d (by have := d.isLt; omega)
  isplitl [HW_arg10]
  · iexists _; isplitr [HW_arg10]; rotate_left; iexact HW_arg10
    ipureintro
    intro d; rw [g10 d, if_pos (by have := d.isLt; omega)]
  isplitl [HW_arg11]
  · iexists _; isplitr [HW_arg11]; rotate_left; iexact HW_arg11
    ipureintro
    intro s d; rw [g11 s d]; have := d.isLt
    by_cases hs : s.val = (i 1).val
    · rw [if_pos ⟨hs, by omega⟩, if_pos hs]
    · rw [if_neg (fun h => hs h.1), if_neg hs]
  isplitl [HW_arg12]
  · iexists _; isplitr [HW_arg12]; rotate_left; iexact HW_arg12
    ipureintro
    intro p d
    exact read_pb3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ f2_arg16 X19 f_arg12 T (fun p d => (k16 p d).trans (if_pos (by have := d.isLt; omega))) h19
      (inv_scale _ T (L18 _)) k0_t3_loop.trips (le_of_eq rfl) p d (by have := d.isLt; have e : k0_t3_loop.trips = 7 := rfl; omega)
  isplitl [HW_arg13]
  · iexists _; isplitr [HW_arg13]; rotate_left; iexact HW_arg13
    ipureintro
    intro p n
    sl_unfold_run_names
    exact (congrFun (View.read_writes_full arg13.view _ _ _ _) (ix3 0 p n)).trans (scale13 _ T (L18 _) p n)
  isplitl [HW_arg14]
  · iexists _; isplitr [HW_arg14]; rotate_left; iexact HW_arg14
    ipureintro
    intro p d; exact g14 p d (by have := d.isLt; omega)
  isplitl [HW_arg15]
  · iexists _; isplitr [HW_arg15]; rotate_left; iexact HW_arg15
    ipureintro
    intro s d; rw [g15 s d]; have := d.isLt
    by_cases hs : s.val = (i 1).val
    · rw [if_pos ⟨hs, by omega⟩, if_pos hs]
    · rw [if_neg (fun h => hs h.1), if_neg hs]
  isplitl [HW_arg16]; · iexists _; iexact HW_arg16
  isplitl [HW_arg17]; · iexists _; iexact HW_arg17
  isplitl [HW_arg18]; · iexists _; iexact HW_arg18
  iexists _; isplitr [HW_arg19]; rotate_left; iexact HW_arg19
  ipureintro
  exact h19

end Cert.KernelIdeal.Hand

end
-- ==== Proof.KernelIdealValFrame.lean ====
/- Hand-written: the body obligation at every grid point with what it leaves in the results, and the launch. -/
module

public import proofs.«01_k».proof.Proof.KernelIdealValData
public import proofs.«01_k».proof.Proof.KernelIdealValReset
public import Idealize.ShloMosaic.Lib.Pipeline.ArrRel
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem coords0 : ∀ t : Fin cfg0.N, (grid0.coords t 0).val = t.val / 8 ∧ (grid0.coords t 1).val = t.val % 8 ∧ (resetAt (grid0.coords t) = 1#1 ↔ t.val = 0) :=
  (by decide +kernel : ∀ t : Fin grid0.N, (grid0.coords t 0).val = t.val / 8 ∧ (grid0.coords t 1).val = t.val % 8 ∧ (resetAt (grid0.coords t) = 1#1 ↔ t.val = 0))

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, ⌜(rdat m c).Finds 7 t X⌝ ∗ owns (c : Thread nD τ) (st0_7 t) fullShare X) ∗ (∃ X, ⌜(rdat m c).Finds 8 t X⌝ ∗ owns (c : Thread nD τ) (st0_8 t) fullShare X) ∗ (∃ X, ⌜(rdat m c).Finds 9 t X⌝ ∗ owns (c : Thread nD τ) (st0_9 t) fullShare X) ∗ (∃ X, ⌜(rdat m c).Finds 10 t X⌝ ∗ owns (c : Thread nD τ) (st0_10 t) fullShare X) ∗ (∃ X, ⌜(rdat m c).Finds 11 t X⌝ ∗ owns (c : Thread nD τ) (st0_11 t) fullShare X) ∗ (∃ X, ⌜(rdat m c).Finds 12 t X⌝ ∗ owns (c : Thread nD τ) (st0_12 t) fullShare X) ∗ (∃ X, ⌜(rdat m c).Finds 13 t X⌝ ∗ owns (c : Thread nD τ) (st0_13 t) fullShare X))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, ⌜Rl m c 7 t X⌝ ∗ owns (c : Thread nD τ) (st0_7 t) fullShare X) ∗ (∃ X, ⌜Rl m c 8 t X⌝ ∗ owns (c : Thread nD τ) (st0_8 t) fullShare X) ∗ (∃ X, ⌜Rl m c 9 t X⌝ ∗ owns (c : Thread nD τ) (st0_9 t) fullShare X) ∗ (∃ X, ⌜Rl m c 10 t X⌝ ∗ owns (c : Thread nD τ) (st0_10 t) fullShare X) ∗ (∃ X, ⌜Rl m c 11 t X⌝ ∗ owns (c : Thread nD τ) (st0_11 t) fullShare X) ∗ (∃ X, ⌜Rl m c 12 t X⌝ ∗ owns (c : Thread nD τ) (st0_12 t) fullShare X) ∗ (∃ X, ⌜Rl m c 13 t X⌝ ∗ owns (c : Thread nD τ) (st0_13 t) fullShare X))

set_option maxHeartbeats 1600000 in
/-- The first point's body: the operands opened, the run, the operands closed. -/
theorem sound_reset (c : Dev nD) (t : Fin cfg0.N) (h0 : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    Phi_eq, Phi_eq, after0_0, after0_1, after0_2, after0_3, after0_4, after0_5, after0_6]
  unfold PhiV
  obtain ⟨hi0, hi1, hres⟩ := coords0 t
  have ht := lt16 t
  unfold owns
  iintro ⟨⟨⟨⟨%ds0, %fs0, %hs0, S0⟩, ⟨%ds1, %fs1, %hs1, S1⟩, ⟨%ds2, %fs2, %hs2, S2⟩, ⟨%ds3, %hhot, %fs3, %hs3, S3⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %hd7, %f7, %hf7, H7⟩, ⟨%d8, %hd8, %f8, %hf8, H8⟩, ⟨%d9, %hd9, %f9, %hf9, H9⟩, ⟨%d10, %hd10, %f10, %hf10, H10⟩, ⟨%d11, %hd11, %f11, %hf11, H11⟩, ⟨%d12, %hd12, %f12, %hf12, H12⟩, ⟨%d13, %hd13, %f13, %hf13, H13⟩⟩
  iapply (wp_wand_r _ _ _)
  isplitl [H0 H1 H2 H3 H4 H5 H6 H7 H8 H9 H10 H11 H12 H13 S0 S1 S2 S3]
  · iapply (valRun_reset c (grid0.coords t) (hres.mpr h0) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _)
      f0 f1 f2 f3 f4 f5 f6 (tile m c t) (fun s d => (show FVec Ideal S1x8x7168 .f32 from d9) (ix3 0 s d)) (fun s d => (show FVec Ideal S1x8x7168 .f32 from d13) (ix3 0 s d))
      (fun p d => congrFun hf0 (ix3 0 p d))
      (fun p b s hb hs => (congrFun hf1 (ix2 b s)).trans (by
        rw [hi0] at hb; rw [hi1] at hs
        show _ = (show FVec Ideal S2x1024 .f32 from iblk m c 1 t) (ix2 _ _)
        congr 2 <;> exact Fin.ext (by assumption)))
      (fun d => congrFun hf2 (ix2 0 d)) (fun p d => congrFun hf3 (ix3 0 p d)) (fun p d => congrFun hf4 (ix3 0 p d)) (fun p d => congrFun hf5 (ix3 0 p d)) (fun p d => congrFun hf6 (ix3 0 p d))) $$ [H0 H1 H2 H3 H4 H5 H6 H7 H8 H9 H10 H11 H12 H13 S0 S1 S2 S3]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]
    · iexists _; isplitr; swap; · iexact H9
      ipureintro; exact fun s d => congrFun hf9 (ix3 0 s d)
    isplitl [H10]; · iexists _; iexact H10
    isplitl [H11]; · iexists _; iexact H11
    isplitl [H12]; · iexists _; iexact H12
    isplitl [H13]
    · iexists _; isplitr; swap; · iexact H13
      ipureintro; exact fun s d => congrFun hf13 (ix3 0 s d)
    isplitl [S0]; · iexists _; iexact S0
    isplitl [S1]; · iexists _; iexact S1
    isplitl [S2]; · iexists _; iexact S2
    iexists _; iexact S3
  iintro %_u ⟨H0, H1, H2, H3, H4, H5, H6, ⟨%g7, %hg7, H7⟩, ⟨%g8, %hg8, H8⟩, ⟨%g9, %hg9, H9⟩, ⟨%g10, %hg10, H10⟩, ⟨%g11, %hg11, H11⟩, ⟨%g12, %hg12, H12⟩, ⟨%g13, %hg13, H13⟩, ⟨%gs0, S0⟩, ⟨%gs1, S1⟩, ⟨%gs2, S2⟩, ⟨%gs3, %hgs3, S3⟩⟩
  isplitl [S0 S1 S2 S3 Hg]
  · isplitl [S0 S1 S2 S3]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      iexists _; isplitr; swap
      · iexists _; isplitr; swap; · iexact S3
        ipureintro; rfl
      ipureintro; exact fun _ => hgs3
    iexact Hg
  isplitl [Ho]; · iexact Ho
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap
    · iexists _; isplitr; swap; · iexact H7
      ipureintro; rfl
    ipureintro
    exact hg7
  isplitl [H8]
  · iexists _; isplitr; swap
    · iexists _; isplitr; swap; · iexact H8
      ipureintro; rfl
    ipureintro
    intro d; refine (hg8 d).trans ?_; rw [zero_add]; unfold sumN; rw [h0, Finset.sum_range_succ, Finset.sum_range_zero, zero_add, ← partN_val, h0]
  isplitl [H9]
  · iexists _; isplitr; swap
    · iexists _; isplitr; swap; · iexact H9
      ipureintro; rfl
    ipureintro
    intro s d hs
    refine (hg9 s d).trans ?_
    rw [hi1]
    by_cases h : s.val = t.val % 8
    · rw [if_pos h, show 8 * (t.val / 8) + s.val = t.val by omega, partN_val]
    · rw [if_neg h]; exact found9 m c t d9 hd9 s d (by omega)
  isplitl [H10]
  · iexists _; isplitr; swap
    · iexists _; isplitr; swap; · iexact H10
      ipureintro; rfl
    ipureintro
    exact hg10
  isplitl [H11]
  · iexists _; isplitr; swap
    · iexists _; isplitr; swap; · iexact H11
      ipureintro; rfl
    ipureintro
    exact hg11
  isplitl [H12]
  · iexists _; isplitr; swap
    · iexists _; isplitr; swap; · iexact H12
      ipureintro; rfl
    ipureintro
    exact hg12
  iexists _; isplitr; swap
  · iexists _; isplitr; swap; · iexact H13
    ipureintro; rfl
  ipureintro
  intro s d hs
  refine (hg13 s d).trans ?_
  rw [hi1]
  by_cases h : s.val = t.val % 8
  · rw [if_pos h, show 8 * (t.val / 8) + s.val = t.val by omega, cscaleN_val]
  · rw [if_neg h]; exact found13 m c t d13 hd13 s d (by omega)

set_option maxHeartbeats 1600000 in
/-- A later point's body: the operands opened, the run, the operands closed. -/
theorem sound_keep (c : Dev nD) (t : Fin cfg0.N) (h0 : t.val ≠ 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    Phi_eq, Phi_eq, after0_0, after0_1, after0_2, after0_3, after0_4, after0_5, after0_6]
  unfold PhiV
  obtain ⟨hi0, hi1, hres⟩ := coords0 t
  have ht := lt16 t
  unfold owns
  iintro ⟨⟨⟨⟨%ds0, %fs0, %hs0, S0⟩, ⟨%ds1, %fs1, %hs1, S1⟩, ⟨%ds2, %fs2, %hs2, S2⟩, ⟨%ds3, %hhot, %fs3, %hs3, S3⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %hd7, %f7, %hf7, H7⟩, ⟨%d8, %hd8, %f8, %hf8, H8⟩, ⟨%d9, %hd9, %f9, %hf9, H9⟩, ⟨%d10, %hd10, %f10, %hf10, H10⟩, ⟨%d11, %hd11, %f11, %hf11, H11⟩, ⟨%d12, %hd12, %f12, %hf12, H12⟩, ⟨%d13, %hd13, %f13, %hf13, H13⟩⟩
  iapply (wp_wand_r _ _ _)
  isplitl [H0 H1 H2 H3 H4 H5 H6 H7 H8 H9 H10 H11 H12 H13 S0 S1 S2 S3]
  · iapply (valRun_keep c (grid0.coords t) (fun h => h0 (hres.mp h)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _)
      f0 f1 f2 f3 f4 f5 f6 (tile m c t) (fun d => (show FVec Ideal S1x7168 .f32 from d8) (ix2 0 d)) (fun s d => (show FVec Ideal S1x8x7168 .f32 from d9) (ix3 0 s d)) (fun s d => (show FVec Ideal S1x8x7168 .f32 from d13) (ix3 0 s d))
      (fun p d => congrFun hf0 (ix3 0 p d))
      (fun p b s hb hs => (congrFun hf1 (ix2 b s)).trans (by
        rw [hi0] at hb; rw [hi1] at hs
        show _ = (show FVec Ideal S2x1024 .f32 from iblk m c 1 t) (ix2 _ _)
        congr 2 <;> exact Fin.ext (by assumption)))
      (fun d => congrFun hf2 (ix2 0 d)) (fun p d => congrFun hf3 (ix3 0 p d)) (fun p d => congrFun hf4 (ix3 0 p d)) (fun p d => congrFun hf5 (ix3 0 p d)) (fun p d => congrFun hf6 (ix3 0 p d))) $$ [H0 H1 H2 H3 H4 H5 H6 H7 H8 H9 H10 H11 H12 H13 S0 S1 S2 S3]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]
    · iexists _; isplitr; swap; · iexact H8
      ipureintro; exact fun d => congrFun hf8 (ix2 0 d)
    isplitl [H9]
    · iexists _; isplitr; swap; · iexact H9
      ipureintro; exact fun s d => congrFun hf9 (ix3 0 s d)
    isplitl [H10]; · iexists _; iexact H10
    isplitl [H11]; · iexists _; iexact H11
    isplitl [H12]; · iexists _; iexact H12
    isplitl [H13]
    · iexists _; isplitr; swap; · iexact H13
      ipureintro; exact fun s d => congrFun hf13 (ix3 0 s d)
    isplitl [S0]; · iexists _; iexact S0
    isplitl [S1]; · iexists _; iexact S1
    isplitl [S2]; · iexists _; iexact S2
    iexists _; isplitr; swap; · iexact S3
    ipureintro; exact fun x d => (congrFun hs3 (ix2 x d)).trans (hhot h0 x d)
  iintro %_u ⟨H0, H1, H2, H3, H4, H5, H6, ⟨%g7, %hg7, H7⟩, ⟨%g8, %hg8, H8⟩, ⟨%g9, %hg9, H9⟩, ⟨%g10, %hg10, H10⟩, ⟨%g11, %hg11, H11⟩, ⟨%g12, %hg12, H12⟩, ⟨%g13, %hg13, H13⟩, ⟨%gs0, S0⟩, ⟨%gs1, S1⟩, ⟨%gs2, S2⟩, ⟨%gs3, %hgs3, S3⟩⟩
  isplitl [S0 S1 S2 S3 Hg]
  · isplitl [S0 S1 S2 S3]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      iexists _; isplitr; swap
      · iexists _; isplitr; swap; · iexact S3
        ipureintro; rfl
      ipureintro; exact fun _ => hgs3
    iexact Hg
  isplitl [Ho]; · iexact Ho
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap
    · iexists _; isplitr; swap; · iexact H7
      ipureintro; rfl
    ipureintro
    exact hg7
  isplitl [H8]
  · iexists _; isplitr; swap
    · iexists _; isplitr; swap; · iexact H8
      ipureintro; rfl
    ipureintro
    exact fun d => (hg8 d).trans (found8 m c t h0 d8 hd8 d)
  isplitl [H9]
  · iexists _; isplitr; swap
    · iexists _; isplitr; swap; · iexact H9
      ipureintro; rfl
    ipureintro
    intro s d hs
    refine (hg9 s d).trans ?_
    rw [hi1]
    by_cases h : s.val = t.val % 8
    · rw [if_pos h, show 8 * (t.val / 8) + s.val = t.val by omega, partN_val]
    · rw [if_neg h]; exact found9 m c t d9 hd9 s d (by omega)
  isplitl [H10]
  · iexists _; isplitr; swap
    · iexists _; isplitr; swap; · iexact H10
      ipureintro; rfl
    ipureintro
    exact hg10
  isplitl [H11]
  · iexists _; isplitr; swap
    · iexists _; isplitr; swap; · iexact H11
      ipureintro; rfl
    ipureintro
    exact hg11
  isplitl [H12]
  · iexists _; isplitr; swap
    · iexists _; isplitr; swap; · iexact H12
      ipureintro; rfl
    ipureintro
    exact hg12
  iexists _; isplitr; swap
  · iexists _; isplitr; swap; · iexact H13
    ipureintro; rfl
  ipureintro
  intro s d hs
  refine (hg13 s d).trans ?_
  rw [hi1]
  by_cases h : s.val = t.val % 8
  · rw [if_pos h, show 8 * (t.val / 8) + s.val = t.val by omega, cscaleN_val]
  · rw [if_neg h]; exact found13 m c t d13 hd13 s d (by omega)

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h : t.val = 0
  · exact sound_reset m c t h
  · exact sound_keep m c t h

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation with the results held to `Rl`. -/
theorem body_obligation (c : Dev nD) :
    Pipeline.BodyObligationRel (dats m 0 c) (defs₀ (F := Ideal)) Variants.none () Set.univ held0 (Rl m c) := fun t => by
  rw [bigSep_W0, bigSep_W0, defs₀_row]
  exact triple_restated (sound_body m c t) rfl .rfl fun _ => .rfl

set_option backward.isDefEq.respectTransparency.types false in
/-- The launch: the inputs and the buffers no window stages end as they began, each written-back block of a result is one `Rl` admits, and
    every semaphore counter reads zero. -/
theorem run_main :
    θ_run defs (onTc (τ := τ) (main (F := Ideal))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := Phi_in m) (hout := Phi_out m)

end Cert.KernelIdeal.Hand

end
-- ==== Proof.KernelIdealResults.lean ====
/- Hand-written: the kernel runs, keeps its arguments and leaves the seven results of the mathematics. -/
module

public import proofs.«01_k».proof.Proof.KernelIdealFinal
public import proofs.«01_k».proof.Proof.KernelIdealValFrame
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (UR sig nD τ) ℕ

variable (m : (ℓ : Loc nD τ sig) → Buf (Elt Ideal) ℓ) (ρ : Dev nD → PrngReg)

/-- The kernel runs, its arguments end unchanged, and every semaphore counter reads zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c)),
    ((h.1 c).2 main_arg2 (Pipeline.mem_restRefs_of main_arg2 (by decide) (by decide))).trans (V_main_arg2 m c),
    (Pipeline.RDat.FramePost.arr_in h.1 c 3 rfl).trans ((A_eq m c 3).trans (V_main_arg3 m c)),
    (Pipeline.RDat.FramePost.arr_in h.1 c 4 rfl).trans ((A_eq m c 4).trans (V_main_arg4 m c)),
    (Pipeline.RDat.FramePost.arr_in h.1 c 5 rfl).trans ((A_eq m c 5).trans (V_main_arg5 m c)),
    (Pipeline.RDat.FramePost.arr_in h.1 c 6 rfl).trans ((A_eq m c 6).trans (V_main_arg6 m c))⟩, h.2⟩) (run_main m ρ)

/-- The kernel runs and leaves the seven results of the mathematics, where every row's factor is a nonnegative real. -/
theorem results (h0 : ∀ c b s, 0 ≤ (args m c).r b s) (h1 : ∀ c b s, (args m c).r b s ≠ ⊤) :
    θ_run defs (onTc (τ := τ) (main (F := Ideal))) ⟨m, fun _ => 0, ρ⟩ (fun r => ∀ c : Dev nD,
      r.2.mem ((c.tc : Thread nD τ).loc main_v1_0) = (args m c).dxA
      ∧ r.2.mem ((c.tc : Thread nD τ).loc main_v1_1) = (args m c).totalA
      ∧ r.2.mem ((c.tc : Thread nD τ).loc main_v1_2) = (args m c).partA
      ∧ r.2.mem ((c.tc : Thread nD τ).loc main_v1_3) = (args m c).rcodeA
      ∧ r.2.mem ((c.tc : Thread nD τ).loc main_v1_4) = (args m c).rscaleA
      ∧ r.2.mem ((c.tc : Thread nD τ).loc main_v1_5) = (args m c).ccodeA
      ∧ r.2.mem ((c.tc : Thread nD τ).loc main_v1_6) = (args m c).cscaleA
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  obtain ⟨after, hL, hA⟩ := Pipeline.RDat.FramePost.exists_exact h.1 c
  refine ⟨?_, ?_, ?_, ?_, ?_, ?_, ?_,
    (Pipeline.RDat.FramePost.arr_in h.1 c 0 rfl).trans ((A_eq m c 0).trans (V_main_arg0 m c)),
    (Pipeline.RDat.FramePost.arr_in h.1 c 1 rfl).trans ((A_eq m c 1).trans (V_main_arg1 m c)),
    ((h.1 c).2 main_arg2 (Pipeline.mem_restRefs_of main_arg2 (by decide) (by decide))).trans (V_main_arg2 m c),
    (Pipeline.RDat.FramePost.arr_in h.1 c 3 rfl).trans ((A_eq m c 3).trans (V_main_arg3 m c)),
    (Pipeline.RDat.FramePost.arr_in h.1 c 4 rfl).trans ((A_eq m c 4).trans (V_main_arg4 m c)),
    (Pipeline.RDat.FramePost.arr_in h.1 c 5 rfl).trans ((A_eq m c 5).trans (V_main_arg5 m c)),
    (Pipeline.RDat.FramePost.arr_in h.1 c 6 rfl).trans ((A_eq m c 6).trans (V_main_arg6 m c))⟩
  · exact (hA 7).trans (final7 m c (h0 c) (h1 c) after hL)
  · exact (hA 8).trans (final8 m c (h0 c) (h1 c) after hL)
  · exact (hA 9).trans (final9 m c (h0 c) (h1 c) after hL)
  · exact (hA 10).trans (final10 m c (h0 c) (h1 c) after hL)
  · exact (hA 11).trans (final11 m c (h0 c) (h1 c) after hL)
  · exact (hA 12).trans (final12 m c (h0 c) (h1 c) after hL)
  · exact (hA 13).trans (final13 m c (h0 c) (h1 c) after hL)

end Cert.KernelIdeal.Hand

end
-- ==== Proof.ReferenceIdealTerms.lean ====
/- Hand-written: what the host lines of the reference leave, as terms over its arguments. -/
module

public import proofs.«01_k».proof.Proof.Gen.ReferenceIdeal.Frame
public import proofs.«01_k».proof.Proof.SpecArgs
public import Idealize.ShloMosaic.Lib.Claim
public import Idealize.ShloMosaic.Lib.StableHlo.RunRead
public import Idealize.ShloMosaic.Lib.Pointwise
@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The arguments as the reference is launched with them. -/
def args (c : Dev nD) : Cert.Spec.Args :=
  Cert.Spec.Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

section terms
variable (x q k v d : FVec Ideal S2x1024x7168 .bf16) (r : FVec Ideal S2x1024 .f32) (γ : FVec Ideal S7168 .f32)

def dNT : FVec Ideal S2x1024x7168 .f32 := addf (addf (extf .f32 q bitsLt_bf16_f32) (extf .f32 k bitsLt_bf16_f32)) (extf .f32 v bitsLt_bf16_f32)
def rT : FVec Ideal S2x1024x1 .f32 := broadcastInDim S2x1024x1 ![0, 1] bcast_S2x1024_S2x1024x1_0_1 r
def rB : FVec Ideal S2x1024x7168 .f32 := broadcastInDim S2x1024x7168 ![0, 1, 2] bcast_S2x1024x1_S2x1024x7168_0_1_2 (rT r)
def xhT : FVec Ideal S2x1024x7168 .f32 := mulf (extf .f32 x bitsLt_bf16_f32) (rB r)
def dxnT : FVec Ideal S2x1024x7168 .f32 :=
  mulf (dNT q k v) (broadcastInDim S2x1024x7168 ![0, 1, 2] bcast_S1x1x7168_S2x1024x7168_0_1_2 (broadcastInDim S1x1x7168 ![2] bcast_S7168_S1x1x7168_2 γ))
def cT : FVec Ideal S2x1024x1 .f32 :=
  Host.divf (broadcastInDim S2x1024x1 ![0, 1] bcast_S2x1024_S2x1024x1_0_1
      (Host.reduceAdd (mulf (dxnT q k v γ) (xhT x r)) (constant S_ .f32 0#32) reducesTo_S2x1024x7168_S2x1024_d2 h_S_))
    (broadcastInDim S2x1024x1 ![] bcast_S_S2x1024x1 (constant S_ .f32 1172307968#32))
def tT : FVec Ideal S2x1024x7168 .f32 :=
  addf (mulf (rB r) (subf (dxnT q k v γ) (mulf (xhT x r) (broadcastInDim S2x1024x7168 ![0, 1, 2] bcast_S2x1024x1_S2x1024x7168_0_1_2 (cT x q k v r γ)))))
    (extf .f32 d bitsLt_bf16_f32)
def partT : FVec Ideal S2x8x7168 .f32 :=
  Host.reduceAdd (shapeCast S2x8x128x7168 (mulf (dNT q k v) (xhT x r)) shapeCasts_S2x1024x7168_S2x8x128x7168) (constant S_ .f32 0#32)
    reducesTo_S2x8x128x7168_S2x8x7168_d2 h_S_
def totalT : FVec Ideal S1x7168 .f32 :=
  shapeCast S1x7168 (Host.reduceAdd (partT x q k v r) (constant S_ .f32 0#32) reducesTo_S2x8x7168_S7168_d0_1 h_S_) shapeCasts_S7168_S1x7168
end terms

section quant
variable (X : FVec Ideal S2x1024x7168 .f32)

def rowG : FVec Ideal S2x1024x56x128 .f32 := shapeCast S2x1024x56x128 X shapeCasts_S2x1024x7168_S2x1024x56x128
def rowM : FVec Ideal S2x1024x56 .f32 :=
  mulf (Host.reduce FloatOps.maximumf (Host.absf (rowG X)) (constant S_ .f32 0xFF800000#32) reducesTo_S2x1024x56x128_S2x1024x56_d3 h_S_) (broadcastInDim S2x1024x56 ![] bcast_S_S2x1024x56 (constant S_ .f32 0x3B124925#32))
def rowE : FVec Ideal S2x1024x56 .f32 :=
  select (ori (cmpf .olt (rowM X) (broadcastInDim S2x1024x56 ![] bcast_S_S2x1024x56 (constant S_ .f32 0x00800000#32))) (cmpf .oeq (rowM X) (broadcastInDim S2x1024x56 ![] bcast_S_S2x1024x56 (constant S_ .f32 0x7F800000#32)))) (broadcastInDim S2x1024x56 ![] bcast_S_S2x1024x56 (constant S_ .f32 0#32))
    (minimumf (addf (Host.floor (Host.divf (Host.log (rowM X)) (broadcastInDim S2x1024x56 ![] bcast_S_S2x1024x56 (Host.log (constant S_ .f32 0x40000000#32))))) (broadcastInDim S2x1024x56 ![] bcast_S_S2x1024x56 (constant S_ .f32 0x3F800000#32))) (broadcastInDim S2x1024x56 ![] bcast_S_S2x1024x56 (constant S_ .f32 0x42F00000#32)))
def rowS : FVec Ideal S2x1024x56 .f32 := Host.powf (broadcastInDim S2x1024x56 ![] bcast_S_S2x1024x56 (constant S_ .f32 0x40000000#32)) (rowE X)
def rowI : FVec Ideal S2x1024x56 .f32 := Host.powf (broadcastInDim S2x1024x56 ![] bcast_S_S2x1024x56 (constant S_ .f32 0x40000000#32)) (Host.negf (rowE X))
def rowQ : FVec Ideal S2x1024x7168 .f32 :=
  shapeCast S2x1024x7168 (minimumf (broadcastInDim S2x1024x56x128 ![] bcast_S_S2x1024x56x128 (constant S_ .f32 0x43E00000#32)) (maximumf (broadcastInDim S2x1024x56x128 ![] bcast_S_S2x1024x56x128 (constant S_ .f32 0xC3E00000#32)) (mulf (rowG X)
    (broadcastInDim S2x1024x56x128 ![0, 1, 2, 3] bcast_S2x1024x56x1_S2x1024x56x128_0_1_2_3 (broadcastInDim S2x1024x56x1 ![0, 1, 2] bcast_S2x1024x56_S2x1024x56x1_0_1_2 (rowI X)))))) shapeCasts_S2x1024x56x128_S2x1024x7168

def colG : FVec Ideal S2x8x128x7168 .f32 := shapeCast S2x8x128x7168 X shapeCasts_S2x1024x7168_S2x8x128x7168
def colM : FVec Ideal S2x8x7168 .f32 :=
  mulf (Host.reduce FloatOps.maximumf (Host.absf (colG X)) (constant S_ .f32 0xFF800000#32) reducesTo_S2x8x128x7168_S2x8x7168_d2 h_S_) (broadcastInDim S2x8x7168 ![] bcast_S_S2x8x7168 (constant S_ .f32 0x3B124925#32))
def colE : FVec Ideal S2x8x7168 .f32 :=
  select (ori (cmpf .olt (colM X) (broadcastInDim S2x8x7168 ![] bcast_S_S2x8x7168 (constant S_ .f32 0x00800000#32))) (cmpf .oeq (colM X) (broadcastInDim S2x8x7168 ![] bcast_S_S2x8x7168 (constant S_ .f32 0x7F800000#32)))) (broadcastInDim S2x8x7168 ![] bcast_S_S2x8x7168 (constant S_ .f32 0#32))
    (minimumf (addf (Host.floor (Host.divf (Host.log (colM X)) (broadcastInDim S2x8x7168 ![] bcast_S_S2x8x7168 (Host.log (constant S_ .f32 0x40000000#32))))) (broadcastInDim S2x8x7168 ![] bcast_S_S2x8x7168 (constant S_ .f32 0x3F800000#32))) (broadcastInDim S2x8x7168 ![] bcast_S_S2x8x7168 (constant S_ .f32 0x42F00000#32)))
def colS : FVec Ideal S2x8x7168 .f32 := Host.powf (broadcastInDim S2x8x7168 ![] bcast_S_S2x8x7168 (constant S_ .f32 0x40000000#32)) (colE X)
def colI : FVec Ideal S2x8x7168 .f32 := Host.powf (broadcastInDim S2x8x7168 ![] bcast_S_S2x8x7168 (constant S_ .f32 0x40000000#32)) (Host.negf (colE X))
def colQ : FVec Ideal S2x1024x7168 .f32 :=
  shapeCast S2x1024x7168 (minimumf (broadcastInDim S2x8x128x7168 ![] bcast_S_S2x8x128x7168 (constant S_ .f32 0x43E00000#32)) (maximumf (broadcastInDim S2x8x128x7168 ![] bcast_S_S2x8x128x7168 (constant S_ .f32 0xC3E00000#32)) (mulf (colG X)
    (broadcastInDim S2x8x128x7168 ![0, 1, 2, 3] bcast_S2x8x1x7168_S2x8x128x7168_0_1_2_3 (broadcastInDim S2x8x1x7168 ![0, 1, 3] bcast_S2x8x7168_S2x8x1x7168_0_1_3 (colI X)))))) shapeCasts_S2x8x128x7168_S2x1024x7168

end quant

section reads
variable (c : Dev nD)

/-- The sum the reference quantises. -/
def tA : FVec Ideal S2x1024x7168 .f32 := tT (m ((c : Thread nD τ).loc main_arg0)) (m ((c : Thread nD τ).loc main_arg4)) (m ((c : Thread nD τ).loc main_arg5)) (m ((c : Thread nD τ).loc main_arg6)) (m ((c : Thread nD τ).loc main_arg3)) (m ((c : Thread nD τ).loc main_arg1)) (m ((c : Thread nD τ).loc main_arg2))

end reads

/-! One host line after another. -/

theorem s0_v26 (σ : Valuation τ sig (Elt Ideal)) : StableHlo.after hostOps0 σ (Proc.devRef .tc main_v26) = (tT (σ (Proc.devRef .tc main_arg0)) (σ (Proc.devRef .tc main_arg4)) (σ (Proc.devRef .tc main_arg5)) (σ (Proc.devRef .tc main_arg6)) (σ (Proc.devRef .tc main_arg3)) (σ (Proc.devRef .tc main_arg1)) (σ (Proc.devRef .tc main_arg2))) := by
  simp only [hostOps0]
  after_reads_simp
  try rfl

theorem s0_v24 (σ : Valuation τ sig (Elt Ideal)) : StableHlo.after hostOps0 σ (Proc.devRef .tc main_v24) = (partT (σ (Proc.devRef .tc main_arg0)) (σ (Proc.devRef .tc main_arg4)) (σ (Proc.devRef .tc main_arg5)) (σ (Proc.devRef .tc main_arg6)) (σ (Proc.devRef .tc main_arg1))) := by
  simp only [hostOps0]
  after_reads_simp
  try rfl

theorem s0_v28 (σ : Valuation τ sig (Elt Ideal)) : StableHlo.after hostOps0 σ (Proc.devRef .tc main_v28) = (totalT (σ (Proc.devRef .tc main_arg0)) (σ (Proc.devRef .tc main_arg4)) (σ (Proc.devRef .tc main_arg5)) (σ (Proc.devRef .tc main_arg6)) (σ (Proc.devRef .tc main_arg1))) := by
  simp only [hostOps0]
  after_reads_simp
  try rfl

theorem s0_v29 (σ : Valuation τ sig (Elt Ideal)) : StableHlo.after hostOps0 σ (Proc.devRef .tc main_v29) = (rowG (StableHlo.after hostOps0 σ (Proc.devRef .tc main_v26))) := by
  simp only [hostOps0]
  after_reads_simp
  try rfl

theorem s0_v48 (σ : Valuation τ sig (Elt Ideal)) : StableHlo.after hostOps0 σ (Proc.devRef .tc main_v48) = (ori (cmpf .olt (rowM (StableHlo.after hostOps0 σ (Proc.devRef .tc main_v26))) (broadcastInDim S2x1024x56 ![] bcast_S_S2x1024x56 (constant S_ .f32 0x00800000#32))) (cmpf .oeq (rowM (StableHlo.after hostOps0 σ (Proc.devRef .tc main_v26))) (broadcastInDim S2x1024x56 ![] bcast_S_S2x1024x56 (constant S_ .f32 0x7F800000#32)))) := by
  simp only [hostOps0]
  after_reads_simp
  try rfl

theorem s0_v43 (σ : Valuation τ sig (Elt Ideal)) : StableHlo.after hostOps0 σ (Proc.devRef .tc main_v43) = (minimumf (addf (Host.floor (Host.divf (Host.log (rowM (StableHlo.after hostOps0 σ (Proc.devRef .tc main_v26)))) (broadcastInDim S2x1024x56 ![] bcast_S_S2x1024x56 (Host.log (constant S_ .f32 0x40000000#32))))) (broadcastInDim S2x1024x56 ![] bcast_S_S2x1024x56 (constant S_ .f32 0x3F800000#32))) (broadcastInDim S2x1024x56 ![] bcast_S_S2x1024x56 (constant S_ .f32 0x42F00000#32)) : FVec Ideal S2x1024x56 .f32) := by
  simp only [hostOps0]
  after_reads_simp
  try rfl

theorem s0_cst_10 (σ : Valuation τ sig (Elt Ideal)) : StableHlo.after hostOps0 σ (Proc.devRef .tc main_cst_10) = (constant S_ .f32 0#32 : FVec Ideal S_ .f32) := by
  simp only [hostOps0]
  after_reads_simp
  try rfl

theorem s1_v49 (σ : Valuation τ sig (Elt Ideal)) : StableHlo.after hostOps0_1 σ (Proc.devRef .tc main_v49) = (select (σ (Proc.devRef .tc main_v48)) (broadcastInDim S2x1024x56 ![] bcast_S_S2x1024x56 (σ (Proc.devRef .tc main_cst_10))) (σ (Proc.devRef .tc main_v43)) : FVec Ideal S2x1024x56 .f32) := by
  simp only [hostOps0_1]
  after_reads_simp
  try rfl

theorem s2_v51 (σ : Valuation τ sig (Elt Ideal)) : StableHlo.after hostOps0_2 σ (Proc.devRef .tc main_v51) = (Host.powf (broadcastInDim S2x1024x56 ![] bcast_S_S2x1024x56 (constant S_ .f32 0x40000000#32)) (σ (Proc.devRef .tc main_v49)) : FVec Ideal S2x1024x56 .f32) := by
  simp only [hostOps0_2]
  after_reads_simp
  try rfl

theorem s2_v57 (σ : Valuation τ sig (Elt Ideal)) : StableHlo.after hostOps0_2 σ (Proc.devRef .tc main_v57) = (mulf (σ (Proc.devRef .tc main_v29)) (broadcastInDim S2x1024x56x128 ![0, 1, 2, 3] bcast_S2x1024x56x1_S2x1024x56x128_0_1_2_3 (broadcastInDim S2x1024x56x1 ![0, 1, 2] bcast_S2x1024x56_S2x1024x56x1_0_1_2 (Host.powf (broadcastInDim S2x1024x56 ![] bcast_S_S2x1024x56 (constant S_ .f32 0x40000000#32)) (Host.negf (σ (Proc.devRef .tc main_v49)))))) : FVec Ideal S2x1024x56x128 .f32) := by
  simp only [hostOps0_2]
  after_reads_simp
  try rfl

theorem s2_cst_13 (σ : Valuation τ sig (Elt Ideal)) : StableHlo.after hostOps0_2 σ (Proc.devRef .tc main_cst_13) = (constant S_ .f32 0xC3E00000#32 : FVec Ideal S_ .f32) := by
  simp only [hostOps0_2]
  after_reads_simp
  try rfl

theorem s2_cst_14 (σ : Valuation τ sig (Elt Ideal)) : StableHlo.after hostOps0_2 σ (Proc.devRef .tc main_cst_14) = (constant S_ .f32 0x43E00000#32 : FVec Ideal S_ .f32) := by
  simp only [hostOps0_2]
  after_reads_simp
  try rfl

theorem s3_v58 (σ : Valuation τ sig (Elt Ideal)) : StableHlo.after hostOps0_3 σ (Proc.devRef .tc main_v58) = (minimumf (broadcastInDim S2x1024x56x128 ![] bcast_S_S2x1024x56x128 (σ (Proc.devRef .tc main_cst_14))) (maximumf (broadcastInDim S2x1024x56x128 ![] bcast_S_S2x1024x56x128 (σ (Proc.devRef .tc main_cst_13))) (σ (Proc.devRef .tc main_v57))) : FVec Ideal S2x1024x56x128 .f32) := by
  simp only [hostOps0_3]
  after_reads_simp
  try rfl

theorem s4_v59 (σ : Valuation τ sig (Elt Ideal)) : StableHlo.after hostOps0_4 σ (Proc.devRef .tc main_v59) = (shapeCast S2x1024x7168 (σ (Proc.devRef .tc main_v58)) shapeCasts_S2x1024x56x128_S2x1024x7168 : FVec Ideal S2x1024x7168 .f32) := by
  simp only [hostOps0_4]
  after_reads_simp
  try rfl

theorem s4_v60 (σ : Valuation τ sig (Elt Ideal)) : StableHlo.after hostOps0_4 σ (Proc.devRef .tc main_v60) = (colG (σ (Proc.devRef .tc main_v26))) := by
  simp only [hostOps0_4]
  after_reads_simp
  try rfl

theorem s4_v79 (σ : Valuation τ sig (Elt Ideal)) : StableHlo.after hostOps0_4 σ (Proc.devRef .tc main_v79) = (ori (cmpf .olt (colM (σ (Proc.devRef .tc main_v26))) (broadcastInDim S2x8x7168 ![] bcast_S_S2x8x7168 (constant S_ .f32 0x00800000#32))) (cmpf .oeq (colM (σ (Proc.devRef .tc main_v26))) (broadcastInDim S2x8x7168 ![] bcast_S_S2x8x7168 (constant S_ .f32 0x7F800000#32)))) := by
  simp only [hostOps0_4]
  after_reads_simp
  try rfl

theorem s4_v74 (σ : Valuation τ sig (Elt Ideal)) : StableHlo.after hostOps0_4 σ (Proc.devRef .tc main_v74) = (minimumf (addf (Host.floor (Host.divf (Host.log (colM (σ (Proc.devRef .tc main_v26)))) (broadcastInDim S2x8x7168 ![] bcast_S_S2x8x7168 (Host.log (constant S_ .f32 0x40000000#32))))) (broadcastInDim S2x8x7168 ![] bcast_S_S2x8x7168 (constant S_ .f32 0x3F800000#32))) (broadcastInDim S2x8x7168 ![] bcast_S_S2x8x7168 (constant S_ .f32 0x42F00000#32)) : FVec Ideal S2x8x7168 .f32) := by
  simp only [hostOps0_4]
  after_reads_simp
  try rfl

theorem s4_cst_22 (σ : Valuation τ sig (Elt Ideal)) : StableHlo.after hostOps0_4 σ (Proc.devRef .tc main_cst_22) = (constant S_ .f32 0#32 : FVec Ideal S_ .f32) := by
  simp only [hostOps0_4]
  after_reads_simp
  try rfl

theorem s5_v80 (σ : Valuation τ sig (Elt Ideal)) : StableHlo.after hostOps0_5 σ (Proc.devRef .tc main_v80) = (select (σ (Proc.devRef .tc main_v79)) (broadcastInDim S2x8x7168 ![] bcast_S_S2x8x7168 (σ (Proc.devRef .tc main_cst_22))) (σ (Proc.devRef .tc main_v74)) : FVec Ideal S2x8x7168 .f32) := by
  simp only [hostOps0_5]
  after_reads_simp
  try rfl

theorem s6_v82 (σ : Valuation τ sig (Elt Ideal)) : StableHlo.after hostOps0_6 σ (Proc.devRef .tc main_v82) = (Host.powf (broadcastInDim S2x8x7168 ![] bcast_S_S2x8x7168 (constant S_ .f32 0x40000000#32)) (σ (Proc.devRef .tc main_v80)) : FVec Ideal S2x8x7168 .f32) := by
  simp only [hostOps0_6]
  after_reads_simp
  try rfl

theorem s6_v88 (σ : Valuation τ sig (Elt Ideal)) : StableHlo.after hostOps0_6 σ (Proc.devRef .tc main_v88) = (mulf (σ (Proc.devRef .tc main_v60)) (broadcastInDim S2x8x128x7168 ![0, 1, 2, 3] bcast_S2x8x1x7168_S2x8x128x7168_0_1_2_3 (broadcastInDim S2x8x1x7168 ![0, 1, 3] bcast_S2x8x7168_S2x8x1x7168_0_1_3 (Host.powf (broadcastInDim S2x8x7168 ![] bcast_S_S2x8x7168 (constant S_ .f32 0x40000000#32)) (Host.negf (σ (Proc.devRef .tc main_v80)))))) : FVec Ideal S2x8x128x7168 .f32) := by
  simp only [hostOps0_6]
  after_reads_simp
  try rfl

theorem s6_cst_25 (σ : Valuation τ sig (Elt Ideal)) : StableHlo.after hostOps0_6 σ (Proc.devRef .tc main_cst_25) = (constant S_ .f32 0xC3E00000#32 : FVec Ideal S_ .f32) := by
  simp only [hostOps0_6]
  after_reads_simp
  try rfl

theorem s6_cst_26 (σ : Valuation τ sig (Elt Ideal)) : StableHlo.after hostOps0_6 σ (Proc.devRef .tc main_cst_26) = (constant S_ .f32 0x43E00000#32 : FVec Ideal S_ .f32) := by
  simp only [hostOps0_6]
  after_reads_simp
  try rfl

theorem s7_v89 (σ : Valuation τ sig (Elt Ideal)) : StableHlo.after hostOps0_7 σ (Proc.devRef .tc main_v89) = (minimumf (broadcastInDim S2x8x128x7168 ![] bcast_S_S2x8x128x7168 (σ (Proc.devRef .tc main_cst_26))) (maximumf (broadcastInDim S2x8x128x7168 ![] bcast_S_S2x8x128x7168 (σ (Proc.devRef .tc main_cst_25))) (σ (Proc.devRef .tc main_v88))) : FVec Ideal S2x8x128x7168 .f32) := by
  simp only [hostOps0_7]
  after_reads_simp
  try rfl

theorem s8_v90 (σ : Valuation τ sig (Elt Ideal)) : StableHlo.after hostOps0_8 σ (Proc.devRef .tc main_v90) = (shapeCast S2x1024x7168 (σ (Proc.devRef .tc main_v89)) shapeCasts_S2x8x128x7168_S2x1024x7168 : FVec Ideal S2x1024x7168 .f32) := by
  simp only [hostOps0_8]
  after_reads_simp
  try rfl

theorem k1_v26 (σ : Valuation τ sig (Elt Ideal)) : StableHlo.after hostOps0_1 σ (Proc.devRef .tc main_v26) = σ (Proc.devRef .tc main_v26) := by
  simp only [hostOps0_1]
  after_reads_simp

theorem k2_v26 (σ : Valuation τ sig (Elt Ideal)) : StableHlo.after hostOps0_2 σ (Proc.devRef .tc main_v26) = σ (Proc.devRef .tc main_v26) := by
  simp only [hostOps0_2]
  after_reads_simp

theorem k3_v26 (σ : Valuation τ sig (Elt Ideal)) : StableHlo.after hostOps0_3 σ (Proc.devRef .tc main_v26) = σ (Proc.devRef .tc main_v26) := by
  simp only [hostOps0_3]
  after_reads_simp

theorem k4_v26 (σ : Valuation τ sig (Elt Ideal)) : StableHlo.after hostOps0_4 σ (Proc.devRef .tc main_v26) = σ (Proc.devRef .tc main_v26) := by
  simp only [hostOps0_4]
  after_reads_simp

theorem k5_v26 (σ : Valuation τ sig (Elt Ideal)) : StableHlo.after hostOps0_5 σ (Proc.devRef .tc main_v26) = σ (Proc.devRef .tc main_v26) := by
  simp only [hostOps0_5]
  after_reads_simp

theorem k6_v26 (σ : Valuation τ sig (Elt Ideal)) : StableHlo.after hostOps0_6 σ (Proc.devRef .tc main_v26) = σ (Proc.devRef .tc main_v26) := by
  simp only [hostOps0_6]
  after_reads_simp

theorem k7_v26 (σ : Valuation τ sig (Elt Ideal)) : StableHlo.after hostOps0_7 σ (Proc.devRef .tc main_v26) = σ (Proc.devRef .tc main_v26) := by
  simp only [hostOps0_7]
  after_reads_simp

theorem k8_v26 (σ : Valuation τ sig (Elt Ideal)) : StableHlo.after hostOps0_8 σ (Proc.devRef .tc main_v26) = σ (Proc.devRef .tc main_v26) := by
  simp only [hostOps0_8]
  after_reads_simp

theorem k1_v24 (σ : Valuation τ sig (Elt Ideal)) : StableHlo.after hostOps0_1 σ (Proc.devRef .tc main_v24) = σ (Proc.devRef .tc main_v24) := by
  simp only [hostOps0_1]
  after_reads_simp

theorem k2_v24 (σ : Valuation τ sig (Elt Ideal)) : StableHlo.after hostOps0_2 σ (Proc.devRef .tc main_v24) = σ (Proc.devRef .tc main_v24) := by
  simp only [hostOps0_2]
  after_reads_simp

theorem k3_v24 (σ : Valuation τ sig (Elt Ideal)) : StableHlo.after hostOps0_3 σ (Proc.devRef .tc main_v24) = σ (Proc.devRef .tc main_v24) := by
  simp only [hostOps0_3]
  after_reads_simp

theorem k4_v24 (σ : Valuation τ sig (Elt Ideal)) : StableHlo.after hostOps0_4 σ (Proc.devRef .tc main_v24) = σ (Proc.devRef .tc main_v24) := by
  simp only [hostOps0_4]
  after_reads_simp

theorem k5_v24 (σ : Valuation τ sig (Elt Ideal)) : StableHlo.after hostOps0_5 σ (Proc.devRef .tc main_v24) = σ (Proc.devRef .tc main_v24) := by
  simp only [hostOps0_5]
  after_reads_simp

theorem k6_v24 (σ : Valuation τ sig (Elt Ideal)) : StableHlo.after hostOps0_6 σ (Proc.devRef .tc main_v24) = σ (Proc.devRef .tc main_v24) := by
  simp only [hostOps0_6]
  after_reads_simp

theorem k7_v24 (σ : Valuation τ sig (Elt Ideal)) : StableHlo.after hostOps0_7 σ (Proc.devRef .tc main_v24) = σ (Proc.devRef .tc main_v24) := by
  simp only [hostOps0_7]
  after_reads_simp

theorem k8_v24 (σ : Valuation τ sig (Elt Ideal)) : StableHlo.after hostOps0_8 σ (Proc.devRef .tc main_v24) = σ (Proc.devRef .tc main_v24) := by
  simp only [hostOps0_8]
  after_reads_simp

theorem k1_v28 (σ : Valuation τ sig (Elt Ideal)) : StableHlo.after hostOps0_1 σ (Proc.devRef .tc main_v28) = σ (Proc.devRef .tc main_v28) := by
  simp only [hostOps0_1]
  after_reads_simp

theorem k2_v28 (σ : Valuation τ sig (Elt Ideal)) : StableHlo.after hostOps0_2 σ (Proc.devRef .tc main_v28) = σ (Proc.devRef .tc main_v28) := by
  simp only [hostOps0_2]
  after_reads_simp

theorem k3_v28 (σ : Valuation τ sig (Elt Ideal)) : StableHlo.after hostOps0_3 σ (Proc.devRef .tc main_v28) = σ (Proc.devRef .tc main_v28) := by
  simp only [hostOps0_3]
  after_reads_simp

theorem k4_v28 (σ : Valuation τ sig (Elt Ideal)) : StableHlo.after hostOps0_4 σ (Proc.devRef .tc main_v28) = σ (Proc.devRef .tc main_v28) := by
  simp only [hostOps0_4]
  after_reads_simp

theorem k5_v28 (σ : Valuation τ sig (Elt Ideal)) : StableHlo.after hostOps0_5 σ (Proc.devRef .tc main_v28) = σ (Proc.devRef .tc main_v28) := by
  simp only [hostOps0_5]
  after_reads_simp

theorem k6_v28 (σ : Valuation τ sig (Elt Ideal)) : StableHlo.after hostOps0_6 σ (Proc.devRef .tc main_v28) = σ (Proc.devRef .tc main_v28) := by
  simp only [hostOps0_6]
  after_reads_simp

theorem k7_v28 (σ : Valuation τ sig (Elt Ideal)) : StableHlo.after hostOps0_7 σ (Proc.devRef .tc main_v28) = σ (Proc.devRef .tc main_v28) := by
  simp only [hostOps0_7]
  after_reads_simp

theorem k8_v28 (σ : Valuation τ sig (Elt Ideal)) : StableHlo.after hostOps0_8 σ (Proc.devRef .tc main_v28) = σ (Proc.devRef .tc main_v28) := by
  simp only [hostOps0_8]
  after_reads_simp

theorem k3_v51 (σ : Valuation τ sig (Elt Ideal)) : StableHlo.after hostOps0_3 σ (Proc.devRef .tc main_v51) = σ (Proc.devRef .tc main_v51) := by
  simp only [hostOps0_3]
  after_reads_simp

theorem k4_v51 (σ : Valuation τ sig (Elt Ideal)) : StableHlo.after hostOps0_4 σ (Proc.devRef .tc main_v51) = σ (Proc.devRef .tc main_v51) := by
  simp only [hostOps0_4]
  after_reads_simp

theorem k5_v51 (σ : Valuation τ sig (Elt Ideal)) : StableHlo.after hostOps0_5 σ (Proc.devRef .tc main_v51) = σ (Proc.devRef .tc main_v51) := by
  simp only [hostOps0_5]
  after_reads_simp

theorem k6_v51 (σ : Valuation τ sig (Elt Ideal)) : StableHlo.after hostOps0_6 σ (Proc.devRef .tc main_v51) = σ (Proc.devRef .tc main_v51) := by
  simp only [hostOps0_6]
  after_reads_simp

theorem k7_v51 (σ : Valuation τ sig (Elt Ideal)) : StableHlo.after hostOps0_7 σ (Proc.devRef .tc main_v51) = σ (Proc.devRef .tc main_v51) := by
  simp only [hostOps0_7]
  after_reads_simp

theorem k8_v51 (σ : Valuation τ sig (Elt Ideal)) : StableHlo.after hostOps0_8 σ (Proc.devRef .tc main_v51) = σ (Proc.devRef .tc main_v51) := by
  simp only [hostOps0_8]
  after_reads_simp

theorem k7_v82 (σ : Valuation τ sig (Elt Ideal)) : StableHlo.after hostOps0_7 σ (Proc.devRef .tc main_v82) = σ (Proc.devRef .tc main_v82) := by
  simp only [hostOps0_7]
  after_reads_simp

theorem k8_v82 (σ : Valuation τ sig (Elt Ideal)) : StableHlo.after hostOps0_8 σ (Proc.devRef .tc main_v82) = σ (Proc.devRef .tc main_v82) := by
  simp only [hostOps0_8]
  after_reads_simp

theorem k5_v59 (σ : Valuation τ sig (Elt Ideal)) : StableHlo.after hostOps0_5 σ (Proc.devRef .tc main_v59) = σ (Proc.devRef .tc main_v59) := by
  simp only [hostOps0_5]
  after_reads_simp

theorem k6_v59 (σ : Valuation τ sig (Elt Ideal)) : StableHlo.after hostOps0_6 σ (Proc.devRef .tc main_v59) = σ (Proc.devRef .tc main_v59) := by
  simp only [hostOps0_6]
  after_reads_simp

theorem k7_v59 (σ : Valuation τ sig (Elt Ideal)) : StableHlo.after hostOps0_7 σ (Proc.devRef .tc main_v59) = σ (Proc.devRef .tc main_v59) := by
  simp only [hostOps0_7]
  after_reads_simp

theorem k8_v59 (σ : Valuation τ sig (Elt Ideal)) : StableHlo.after hostOps0_8 σ (Proc.devRef .tc main_v59) = σ (Proc.devRef .tc main_v59) := by
  simp only [hostOps0_8]
  after_reads_simp

theorem k1_v29 (σ : Valuation τ sig (Elt Ideal)) : StableHlo.after hostOps0_1 σ (Proc.devRef .tc main_v29) = σ (Proc.devRef .tc main_v29) := by
  simp only [hostOps0_1]
  after_reads_simp

theorem k5_v60 (σ : Valuation τ sig (Elt Ideal)) : StableHlo.after hostOps0_5 σ (Proc.devRef .tc main_v60) = σ (Proc.devRef .tc main_v60) := by
  simp only [hostOps0_5]
  after_reads_simp

section final
variable (c : Dev nD)

theorem V26 : V m c main_v26 = tA m c := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [k8_v26, k7_v26, k6_v26, k5_v26, k4_v26, k3_v26, k2_v26, k1_v26, s0_v26]
  try rfl

theorem V24 : V m c main_v24 = partT (m ((c : Thread nD τ).loc main_arg0)) (m ((c : Thread nD τ).loc main_arg4)) (m ((c : Thread nD τ).loc main_arg5)) (m ((c : Thread nD τ).loc main_arg6)) (m ((c : Thread nD τ).loc main_arg1)) := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [k8_v24, k7_v24, k6_v24, k5_v24, k4_v24, k3_v24, k2_v24, k1_v24, s0_v24]
  try rfl

theorem V28 : V m c main_v28 = totalT (m ((c : Thread nD τ).loc main_arg0)) (m ((c : Thread nD τ).loc main_arg4)) (m ((c : Thread nD τ).loc main_arg5)) (m ((c : Thread nD τ).loc main_arg6)) (m ((c : Thread nD τ).loc main_arg1)) := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [k8_v28, k7_v28, k6_v28, k5_v28, k4_v28, k3_v28, k2_v28, k1_v28, s0_v28]
  try rfl

theorem V51 : V m c main_v51 = rowS (tA m c) := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [k8_v51, k7_v51, k6_v51, k5_v51, k4_v51, k3_v51, s2_v51, s1_v49, s0_v48, s0_v43, s0_cst_10, s0_v26]
  try rfl

theorem V82 : V m c main_v82 = colS (tA m c) := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [k8_v82, k7_v82, s6_v82, s5_v80, s4_v79, s4_v74, s4_cst_22, k3_v26, k2_v26, k1_v26, s0_v26]
  try rfl

theorem V59 : V m c main_v59 = rowQ (tA m c) := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [k8_v59, k7_v59, k6_v59, k5_v59, s4_v59, s3_v58, s2_v57, s2_cst_13, s2_cst_14, k1_v29, s0_v29, s1_v49, s0_v48, s0_v43, s0_cst_10, s0_v26]
  try rfl

theorem V90 : V m c main_v90 = colQ (tA m c) := by
  show StableHlo.after (List.flatten _) _ _ = _
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]
  rw [s8_v90, s7_v89, s6_v88, s6_cst_25, s6_cst_26, k5_v60, s4_v60, s5_v80, s4_v79, s4_v74, s4_cst_22, k3_v26, k2_v26, k1_v26, s0_v26]
  try rfl

end final

end Cert.ReferenceIdeal.Hand

end
-- ==== Proof.ReferenceIdealVals.lean ====
/- Hand-written: the terms of the reference are the mathematics, index by index. -/
module

public import proofs.«01_k».proof.Proof.ReferenceIdealTerms
public import Idealize.ShloMosaic.Lib.IdealHost
public import Idealize.ShloMosaic.PureOps.Ideal.Laws
@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

open Cert.Spec (Args row lane grp rgrp rexp)

variable (m : (ℓ : Loc nD τ sig) → Buf (Elt Ideal) ℓ)

section literals
theorem lit_7168 : Ideal.ofBits .f32 1172307968#32 = ((7168 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_120 : Ideal.ofBits .f32 0x42F00000#32 = ((120 : ℝ) : EReal) := by
  simp [Ideal.ofBits, Ideal.ieee, -EReal.coe_mul]; norm_num
theorem lit_inf : Ideal.ofBits .f32 0x7F800000#32 = ⊤ := by
  simp [Ideal.ofBits, Ideal.ieee]
theorem lit_zero : Ideal.ofBits .f32 0#32 = 0 := by
  simp [Ideal.ofBits, Ideal.ieee]
theorem lit_tiny : Ideal.ofBits .f32 0x00800000#32 = (((2 : ℝ) ^ (-126 : ℤ) : ℝ) : EReal) := by
  simp [Ideal.ofBits, Ideal.ieee, -EReal.coe_mul]; norm_num
end literals

section terms
variable (x q k v d : FVec Ideal S2x1024x7168 .bf16) (r : FVec Ideal S2x1024 .f32) (γ : FVec Ideal S7168 .f32)
abbrev A0 : Args := Args.of x r γ d q k v

theorem dNT_at (b : Fin 2) (s : Fin 1024) (e : Fin 7168) : dNT q k v (ix3 b s e) = (A0 x q k v d r γ).dN b s e := by
  rfl
theorem rB_at (b : Fin 2) (s : Fin 1024) (e : Fin 7168) : rB r (ix3 b s e) = r (ix2 b s) := by
  unfold rB rT; pointwise
theorem xhT_at (b : Fin 2) (s : Fin 1024) (e : Fin 7168) : xhT x r (ix3 b s e) = (A0 x q k v d r γ).xh b s e := by
  show _ * rB r (ix3 b s e) = _
  rw [rB_at]; rfl
theorem dxnT_at (b : Fin 2) (s : Fin 1024) (e : Fin 7168) : dxnT q k v γ (ix3 b s e) = (A0 x q k v d r γ).dxn b s e := by
  unfold dxnT; pointwise
  rfl
theorem cT_at (b : Fin 2) (s : Fin 1024) : cT x q k v r γ (ix3 b s 0) = (A0 x q k v d r γ).c b s := by
  unfold cT; pointwise
  rw [lit_7168]
  unfold Args.c
  refine congrArg (Ideal.div · _) (Finset.sum_congr rfl fun e _ => ?_)
  rw [dxnT_at x q k v d r, xhT_at x q k v d r γ]
theorem tT_at (b : Fin 2) (s : Fin 1024) (e : Fin 7168) : tT x q k v d r γ (ix3 b s e) = (A0 x q k v d r γ).t b s e := by
  unfold tT; pointwise
  rw [rB_at, dxnT_at x q k v d r, xhT_at x q k v d r γ, cT_at x q k v d]; rfl
theorem partT_at (b : Fin 2) (s : Fin 8) (e : Fin 7168) : partT x q k v r (ix3 b s e) = (A0 x q k v d r γ).part b s e := by
  unfold partT; pointwise
  unfold Args.part
  refine Finset.sum_congr rfl fun p _ => ?_
  rw [dNT_at x q k v d r γ, xhT_at x q k v d r γ]
  have h : (⟨s.val * 128 + p.val, by omega⟩ : Fin 1024) = row s p := Fin.ext (by show s.val * 128 + p.val = 128 * s.val + p.val; omega)
  rw [h]
theorem sum_two (h : S2x8x7168.ReducesTo [0, 1] S7168) (X : FVec Ideal S2x8x7168 .f32) (e : Fin 7168) :
    Ideal.hostReduceAdd h X 0 (ix1 e) = ∑ b, ∑ s, X (ix3 b s e) := by
  unfold Ideal.hostReduceAdd
  rw [zero_add, Finset.sum_filter, sum_idx3]
  refine Finset.sum_congr rfl fun b _ => Finset.sum_congr rfl fun s _ => ?_
  rw [Finset.sum_eq_single e]
  · rw [if_pos]
    funext a; apply Fin.ext
    match a with
    | ⟨0, _⟩ => rfl
  · intro e' _ hne
    rw [if_neg]
    intro he
    have h0 := congrFun he ⟨0, by decide⟩
    exact hne h0
  · intro hne; exact absurd (Finset.mem_univ _) hne
theorem totalT_at (e : Fin 7168) : totalT x q k v r (ix2 0 e) = (A0 x q k v d r γ).total e := by
  unfold totalT; pointwise
  rw [sum_two]
  unfold Args.total
  exact Finset.sum_congr rfl fun b _ => Finset.sum_congr rfl fun s _ => partT_at x q k v d r γ b s e
end terms

section quant
theorem bc_at {S : Shape} (h : S_.BroadcastsInDim S ![]) (w : BitVec 32) (i : S.Idx) :
    broadcastInDim S ![] h (constant (F := Ideal) S_ .f32 w) i = Ideal.ofBits .f32 w := by
  rw [ValueIdx.broadcastInDim_scalar_apply]; rfl
theorem exp_at {S : Shape} (h : S_.BroadcastsInDim S ![]) (M : FVec Ideal S .f32) (i : S.Idx) :
    (select (ori (cmpf .olt M (broadcastInDim S ![] h (constant S_ .f32 0x00800000#32))) (cmpf .oeq M (broadcastInDim S ![] h (constant S_ .f32 0x7F800000#32))))
      (broadcastInDim S ![] h (constant S_ .f32 0#32))
      (minimumf (addf (Host.floor (Host.divf (Host.log M) (broadcastInDim S ![] h (Host.log (constant S_ .f32 0x40000000#32)))))
        (broadcastInDim S ![] h (constant S_ .f32 0x3F800000#32))) (broadcastInDim S ![] h (constant S_ .f32 0x42F00000#32))) : FVec Ideal S .f32) i
      = rexp (M i) := by
  have hl : broadcastInDim S ![] h (Host.log (constant (F := Ideal) S_ .f32 0x40000000#32)) i = Ideal.log ((2 : ℝ) : EReal) := by
    rw [ValueIdx.broadcastInDim_scalar_apply, ← lit_two]; rfl
  show (if (Ideal.cmp .olt (M i) (broadcastInDim S ![] h (constant (F := Ideal) S_ .f32 0x00800000#32) i)
      ||| Ideal.cmp .oeq (M i) (broadcastInDim S ![] h (constant (F := Ideal) S_ .f32 0x7F800000#32) i)) = 1#1
    then broadcastInDim S ![] h (constant (F := Ideal) S_ .f32 0#32) i
    else min (Ideal.liftRound Int.floor (Ideal.div (Ideal.log (M i)) (broadcastInDim S ![] h (Host.log (constant (F := Ideal) S_ .f32 0x40000000#32)) i))
      + broadcastInDim S ![] h (constant (F := Ideal) S_ .f32 0x3F800000#32) i) (broadcastInDim S ![] h (constant (F := Ideal) S_ .f32 0x42F00000#32) i)) = _
  rw [hl, bc_at, bc_at, bc_at, bc_at, bc_at, lit_tiny, lit_inf, lit_zero, lit_120, Ideal.ofBits_one_f32]
  unfold rexp
  generalize M i = y
  generalize (((2 : ℝ) ^ (-126 : ℤ) : ℝ) : EReal) = z
  refine if_congr ?_ rfl rfl
  unfold Ideal.cmp
  by_cases h1 : y < z <;> by_cases h2 : y = ⊤ <;> simp [h1, h2]

variable (X : FVec Ideal S2x1024x7168 .f32)
theorem rowG_at (b : Fin 2) (s : Fin 1024) (n : Fin 56) (l : Fin 128) : rowG X (ix4 b s n l) = X (ix3 b s (lane n l)) := by
  unfold rowG; pointwise
  have h : (⟨n.val * 128 + l.val, by omega⟩ : Fin 7168) = lane n l := Fin.ext (by show n.val * 128 + l.val = 128 * n.val + l.val; omega)
  rw [h]
theorem colG_at (b : Fin 2) (s : Fin 8) (p : Fin 128) (e : Fin 7168) : colG X (ix4 b s p e) = X (ix3 b (row s p) e) := by
  unfold colG; pointwise
  have h : (⟨s.val * 128 + p.val, by omega⟩ : Fin 1024) = row s p := Fin.ext (by show s.val * 128 + p.val = 128 * s.val + p.val; omega)
  rw [h]
theorem rowM_at (b : Fin 2) (s : Fin 1024) (n : Fin 56) : rowM X (ix3 b s n)
    = (Finset.univ.fold max (Ideal.ofBits .f32 0xFF800000#32) fun l => max (X (ix3 b s (lane n l))) (-X (ix3 b s (lane n l)))) * Ideal.ofBits .f32 0x3B124925#32 := by
  unfold rowM
  rw [mulf_apply, Host.reduce_eq_fold_single (a := 3) _ _ _ _ (by decide), bc_at]
  refine congrArg (· * _) (Finset.fold_congr fun (l : Fin 128) _ => ?_)
  show max (rowG X (ix4 b s n l)) (-rowG X (ix4 b s n l)) = _
  rw [rowG_at]
theorem colM_at (b : Fin 2) (s : Fin 8) (e : Fin 7168) : colM X (ix3 b s e)
    = (Finset.univ.fold max (Ideal.ofBits .f32 0xFF800000#32) fun p => max (X (ix3 b (row s p) e)) (-X (ix3 b (row s p) e))) * Ideal.ofBits .f32 0x3B124925#32 := by
  unfold colM
  rw [mulf_apply, Host.reduce_eq_fold_single (a := 2) _ _ _ _ (by decide), bc_at]
  refine congrArg (· * _) (Finset.fold_congr fun (p : Fin 128) _ => ?_)
  show max (colG X (ix4 b s p e)) (-colG X (ix4 b s p e)) = _
  rw [colG_at]
theorem rowE_at (i : S2x1024x56.Idx) : rowE X i = rexp (rowM X i) := by
  exact exp_at _ (rowM X) i
theorem colE_at (i : S2x8x7168.Idx) : colE X i = rexp (colM X i) := by
  exact exp_at _ (colM X) i
theorem rowS_at (i : S2x1024x56.Idx) : rowS X i = Ideal.pow ((2 : ℝ) : EReal) (rexp (rowM X i)) := by
  unfold rowS
  rw [Host.powf_apply, bc_at, lit_two, rowE_at]; exact Ideal.hostPowf_def _ _
theorem colS_at (i : S2x8x7168.Idx) : colS X i = Ideal.pow ((2 : ℝ) : EReal) (rexp (colM X i)) := by
  unfold colS
  rw [Host.powf_apply, bc_at, lit_two, colE_at]; exact Ideal.hostPowf_def _ _
theorem pow_neg_at {S : Shape} (h : S_.BroadcastsInDim S ![]) (E : FVec Ideal S .f32) (i : S.Idx) :
    Host.powf (broadcastInDim S ![] h (constant (F := Ideal) S_ .f32 0x40000000#32)) (Host.negf E) i = Ideal.pow ((2 : ℝ) : EReal) (-E i) := by
  rw [Host.powf_apply, bc_at, lit_two]; exact Ideal.hostPowf_def _ _
theorem rowI_at (i : S2x1024x56.Idx) : rowI X i = Ideal.pow ((2 : ℝ) : EReal) (-rexp (rowM X i)) := by
  unfold rowI
  rw [pow_neg_at, rowE_at]
theorem colI_at (i : S2x8x7168.Idx) : colI X i = Ideal.pow ((2 : ℝ) : EReal) (-rexp (colM X i)) := by
  unfold colI
  rw [pow_neg_at, colE_at]
theorem rowQ_at (b : Fin 2) (s : Fin 1024) (e : Fin 7168) : rowQ X (ix3 b s e) = Cert.Spec.clip (X (ix3 b s e)) (rowI X (ix3 b s (grp e))) := by
  unfold rowQ rowG; pointwise
  rfl
theorem colQ_at (b : Fin 2) (s : Fin 1024) (e : Fin 7168) : colQ X (ix3 b s e) = Cert.Spec.clip (X (ix3 b s e)) (colI X (ix3 b (rgrp s) e)) := by
  unfold colQ colG; pointwise
  rfl
end quant

end Cert.ReferenceIdeal.Hand

end
-- ==== Proof.ReferenceIdealResults.lean ====
/- Hand-written: the seven result arrays of the reference after its run. -/
module

public import proofs.«01_k».proof.Proof.ReferenceIdealVals
public import proofs.«01_k».proof.Proof.SpecArrays
public import Idealize.ShloMosaic.Lib.Pipeline.ValueKit
public import Idealize.ShloMosaic.Lib.Claim
@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

open Cert.Spec (Args row lane grp rgrp rexp)

variable (m : (ℓ : Loc nD τ sig) → Buf (Elt Ideal) ℓ)

section spec
variable (x q k v d : FVec Ideal S2x1024x7168 .bf16) (r : FVec Ideal S2x1024 .f32) (γ : FVec Ideal S7168 .f32)
theorem dx_spec : (truncf .bf16 (tT x q k v d r γ) bitsLt_bf16_f32 : FVec Ideal S2x1024x7168 .bf16) = (Args.of x r γ d q k v).dxA := by
  funext i
  idx_vars i
  exact tT_at x q k v d r γ _ _ _
theorem total_spec : totalT x q k v r = (Args.of x r γ d q k v).totalA := by
  funext i
  obtain ⟨z, e, rfl⟩ : ∃ (z : Fin 1) (e : Fin 7168), i = ix2 z e := ⟨i 0, i 1, eq_ix2 i⟩
  obtain rfl : z = 0 := Fin.ext (by have := z.isLt; omega)
  exact totalT_at x q k v d r γ e
theorem part_spec : partT x q k v r = (Args.of x r γ d q k v).partA := by
  funext i
  idx_vars i
  exact partT_at x q k v d r γ _ _ _
theorem rowM_spec (b : Fin 2) (s : Fin 1024) (n : Fin 56) :
    rowM (tT x q k v d r γ) (ix3 b s n) = (Args.of x r γ d q k v).rmax b s n * Ideal.ofBits .f32 0x3B124925#32 := by
  rw [rowM_at]
  unfold Args.rmax
  refine congrArg (· * _) (Finset.fold_congr fun l _ => ?_)
  rw [tT_at x q k v d r γ b s (lane n l)]
theorem colM_spec (b : Fin 2) (s : Fin 8) (e : Fin 7168) :
    colM (tT x q k v d r γ) (ix3 b s e) = (Args.of x r γ d q k v).cmax b s e * Ideal.ofBits .f32 0x3B124925#32 := by
  rw [colM_at]
  unfold Args.cmax
  refine congrArg (· * _) (Finset.fold_congr fun p _ => ?_)
  rw [tT_at x q k v d r γ b (row s p) e]
theorem rscale_spec : rowS (tT x q k v d r γ) = (Args.of x r γ d q k v).rscaleA := by
  funext i
  obtain ⟨b, s, n, rfl⟩ : ∃ (b : Fin 2) (s : Fin 1024) (n : Fin 56), i = ix3 b s n := ⟨i 0, i 1, i 2, eq_ix3 i⟩
  rw [rowS_at, rowM_spec]
  rfl
theorem cscale_spec : colS (tT x q k v d r γ) = (Args.of x r γ d q k v).cscaleA := by
  funext i
  obtain ⟨b, s, n, rfl⟩ : ∃ (b : Fin 2) (s : Fin 8) (n : Fin 7168), i = ix3 b s n := ⟨i 0, i 1, i 2, eq_ix3 i⟩
  rw [colS_at, colM_spec]
  rfl
theorem rcode_spec : rowQ (tT x q k v d r γ) = (Args.of x r γ d q k v).rcodeA := by
  funext i
  obtain ⟨b, s, e, rfl⟩ : ∃ (b : Fin 2) (s : Fin 1024) (e : Fin 7168), i = ix3 b s e := ⟨i 0, i 1, i 2, eq_ix3 i⟩
  rw [rowQ_at, rowI_at, rowM_spec, tT_at x q k v d r γ b s e]
  rfl
theorem ccode_spec : colQ (tT x q k v d r γ) = (Args.of x r γ d q k v).ccodeA := by
  funext i
  obtain ⟨b, s, e, rfl⟩ : ∃ (b : Fin 2) (s : Fin 1024) (e : Fin 7168), i = ix3 b s e := ⟨i 0, i 1, i 2, eq_ix3 i⟩
  rw [colQ_at, colI_at, colM_spec, tT_at x q k v d r γ b s e]
  rfl
end spec

section arrays
variable (c : Dev nD)
theorem tail_main_v28 : Pipeline.afterTail₀ cfgs (dats m) 0 (V0 m) [hostOps1] c main_v28 = (args m c).totalA := by
  unfold Pipeline.afterTail₀
  rw [StableHlo.after_of_forall_not_mem (b := Proc.devRef .tc main_v28) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_v28 (by exact (by decide : ∀ w, Pipeline.arrRef spec0 w ≠ main_v28))]
  refine (V28 m c).trans ?_
  exact total_spec _ _ _ _ _ _ _
theorem tail_main_v24 : Pipeline.afterTail₀ cfgs (dats m) 0 (V0 m) [hostOps1] c main_v24 = (args m c).partA := by
  unfold Pipeline.afterTail₀
  rw [StableHlo.after_of_forall_not_mem (b := Proc.devRef .tc main_v24) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_v24 (by exact (by decide : ∀ w, Pipeline.arrRef spec0 w ≠ main_v24))]
  refine (V24 m c).trans ?_
  exact part_spec _ _ _ _ _ _ _
theorem tail_main_v51 : Pipeline.afterTail₀ cfgs (dats m) 0 (V0 m) [hostOps1] c main_v51 = (args m c).rscaleA := by
  unfold Pipeline.afterTail₀
  rw [StableHlo.after_of_forall_not_mem (b := Proc.devRef .tc main_v51) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_v51 (by exact (by decide : ∀ w, Pipeline.arrRef spec0 w ≠ main_v51))]
  refine (V51 m c).trans ?_
  exact rscale_spec _ _ _ _ _ _ _
theorem tail_main_v82 : Pipeline.afterTail₀ cfgs (dats m) 0 (V0 m) [hostOps1] c main_v82 = (args m c).cscaleA := by
  unfold Pipeline.afterTail₀
  rw [StableHlo.after_of_forall_not_mem (b := Proc.devRef .tc main_v82) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_v82 (by exact (by decide : ∀ w, Pipeline.arrRef spec0 w ≠ main_v82))]
  refine (V82 m c).trans ?_
  exact cscale_spec _ _ _ _ _ _ _
theorem last_v92 (σ : Valuation τ sig (Elt Ideal)) : StableHlo.after hostOps1 σ (Proc.devRef .tc main_v92)
    = (truncf .bf16 (σ (Proc.devRef .tc main_v26) : FVec Ideal S2x1024x7168 .f32) bitsLt_bf16_f32 : FVec Ideal S2x1024x7168 .bf16) := by
  simp only [hostOps1]
  after_reads_simp
  try rfl
theorem tail_main_v92 : Pipeline.afterTail₀ cfgs (dats m) 0 (V0 m) [hostOps1] c main_v92 = (args m c).dxA := by
  unfold Pipeline.afterTail₀
  rw [List.flatten_cons, List.flatten_nil, List.append_nil, last_v92,
    Pipeline.withArrays_of_ne _ c (V0 m c) _ main_v26 (by exact (by decide : ∀ w, Pipeline.arrRef spec0 w ≠ main_v26))]
  refine Eq.trans ?_ (dx_spec _ _ _ _ _ _ _)
  exact congrArg (fun X : FVec Ideal S2x1024x7168 .f32 => (truncf .bf16 X bitsLt_bf16_f32 : FVec Ideal S2x1024x7168 .bf16)) (V26 m c)
theorem pay2 (X : FVec Ideal S2x1024x7168 .f32) (y : S2x1024x7168.Idx) : (k0_pay1 (F := Ideal) X y : EReal) = (X y : EReal) := by
  pointwise [k0_pay1]
theorem pay3 (X : FVec Ideal S2x1024x7168 .f32) (y : S2x1024x7168.Idx) : (k0_pay2 (F := Ideal) X y : EReal) = (X y : EReal) := by
  pointwise [k0_pay2]
theorem idx0 : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, _)
theorem val_V59 : V m c main_v59 = (args m c).rcodeA := by
  rw [V59]
  exact rcode_spec _ _ _ _ _ _ _
theorem arr_2 : (dats m 0 c).arrAt 2 (cfgs 0).N = (args m c).rcodeA := by
  rw [← val_V59 m c]
  refine (dats m 0 c).arrAt_eq_of_covers 2 _ (by decide +kernel) fun t hf y => ?_
  blk_simp
  rw [after0_2]
  frame_out
  refine (pay2 _ y).trans ?_
  blk_ext [iblk, idx0 t]
theorem val_V90 : V m c main_v90 = (args m c).ccodeA := by
  rw [V90]
  exact ccode_spec _ _ _ _ _ _ _
theorem arr_3 : (dats m 0 c).arrAt 3 (cfgs 0).N = (args m c).ccodeA := by
  rw [← val_V90 m c]
  refine (dats m 0 c).arrAt_eq_of_covers 3 _ (by decide +kernel) fun t hf y => ?_
  blk_simp
  rw [after0_3]
  frame_out
  refine (pay3 _ y).trans ?_
  blk_ext [iblk, idx0 t]
end arrays

/-- The reference runs and leaves the seven results of the mathematics. -/
theorem results (ρ : Dev nD → PrngReg) : θ_run defs (onTc (τ := τ) (main (F := Ideal))) ⟨m, fun _ => 0, ρ⟩ (fun r => ∀ c : Dev nD,
r.2.mem ((c.tc : Thread nD τ).loc main_v92) = (args m c).dxA
      ∧ r.2.mem ((c.tc : Thread nD τ).loc main_v28) = (args m c).totalA
      ∧ r.2.mem ((c.tc : Thread nD τ).loc main_v24) = (args m c).partA
      ∧ r.2.mem ((c.tc : Thread nD τ).loc main_v91_0) = (args m c).rcodeA
      ∧ r.2.mem ((c.tc : Thread nD τ).loc main_v51) = (args m c).rscaleA
      ∧ r.2.mem ((c.tc : Thread nD τ).loc main_v91_1) = (args m c).ccodeA
      ∧ r.2.mem ((c.tc : Thread nD τ).loc main_v82) = (args m c).cscaleA
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from Gen.run_main m ρ
  · exact tail_main_v92 m c
  · exact tail_main_v28 m c
  · exact tail_main_v24 m c
  · exact arr_2 m c
  · exact tail_main_v51 m c
  · exact arr_3 m c
  · exact tail_main_v82 m c
  · exact W_main_arg0 m (dats m) c
  · exact W_main_arg1 m (dats m) c
  · exact W_main_arg2 m (dats m) c
  · exact W_main_arg3 m (dats m) c
  · exact W_main_arg4 m (dats m) c
  · exact W_main_arg5 m (dats m) c
  · exact W_main_arg6 m (dats m) c

end Cert.ReferenceIdeal.Hand

end
-- ==== Proof.Precondition.lean ====
/- Hand-written: the precondition says that every row's factor is a nonnegative real. -/
module

public import proofs.«01_k».proof.Pre_rstd_is_finite
public import Idealize.ShloMosaic.Lib.Pointwise
public import Idealize.ShloMosaic.Lib.ReduceAll
public import Idealize.ShloMosaic.Lib.IdealHost
@[expose] public section

set_option maxRecDepth 16384

noncomputable section

namespace Cert.Pre_rstd_is_finite.Hand

open Cert.Pre_rstd_is_finite
open Idealize.ShloMosaic

theorem of_andi {a b : BitVec 1} (h : IntOp.andi a b = 1#1) : a = 1#1 ∧ b = 1#1 := by
  revert a b; decide
theorem of_ofBool {p : Prop} [Decidable p] (h : BitVec.ofBool (decide p) = 1#1) : p := by
  by_cases hp : p
  · exact hp
  · simp [hp] at h

/-- Every row's factor is nonnegative and not infinite. -/
theorem rows [Facts] (x : FVec Ideal S2x1024x7168 .bf16) (r : FVec Ideal S2x1024 .f32) (γ : FVec Ideal S7168 .f32)
    (d q k v : FVec Ideal S2x1024x7168 .bf16) (h : fn (F := Ideal) x r γ d q k v = fun _ => 1#1) (i : S2x1024.Idx) :
    (0 : EReal) ≤ r i ∧ (r i : EReal) ≠ ⊤ := by
  haveI : Subsingleton S_.Idx := ⟨fun a b => funext fun e => e.elim0⟩
  have e := congrFun h ix0
  have hp := Host.reduce_andi_all _ _ _ _ ix0 e i
  have h2 := of_andi hp
  have hz : broadcastInDim S2x1024 ![] Facts.bcast_S_S2x1024 (constant (F := Ideal) S_ .f32 0x00000000#32) i = (0 : EReal) := by
    rw [ValueIdx.broadcastInDim_scalar_apply]
    show Ideal.ofBits .f32 0#32 = 0
    simp [Ideal.ofBits, Ideal.ieee]
  have ht : broadcastInDim S2x1024 ![] Facts.bcast_S_S2x1024 (constant (F := Ideal) S_ .f32 0x7F800000#32) i = (⊤ : EReal) := by
    rw [ValueIdx.broadcastInDim_scalar_apply]
    show Ideal.ofBits .f32 0x7F800000#32 = ⊤
    simp [Ideal.ofBits, Ideal.ieee]
  have a1 : broadcastInDim S2x1024 ![] Facts.bcast_S_S2x1024 (constant (F := Ideal) S_ .f32 0x00000000#32) i ≤ (r i : EReal) := of_ofBool h2.1
  have a2 : (r i : EReal) < broadcastInDim S2x1024 ![] Facts.bcast_S_S2x1024 (constant (F := Ideal) S_ .f32 0x7F800000#32) i := of_ofBool h2.2
  rw [hz] at a1
  rw [ht] at a2
  exact ⟨a1, ne_of_lt a2⟩

end Cert.Pre_rstd_is_finite.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_rstd_is_finite
public import proofs.«01_k».proof.Proof.KernelFrame
public import proofs.«01_k».proof.Proof.KernelIdealResults
public import proofs.«01_k».proof.Proof.ReferenceIdealResults
public import proofs.«01_k».proof.Proof.Precondition
public import Idealize.ShloMosaic.Adequacy
public import Idealize.ShloMosaic.Init

@[expose] public section

noncomputable section

namespace Cert.Proof

open Idealize.ShloMosaic Idealize.SL.Sem Cert.Kernel

theorem equal_results [Cert.Pre_rstd_is_finite.Facts] : Cert.algebraic_KernelIdeal_ReferenceIdeal_pre_rstd_is_finite
    (hKernelIdeal := Cert.KernelIdeal.Gen.facts) (hReferenceIdeal := Cert.ReferenceIdeal.Gen.facts) := by
  intro m g m' g' hpre hargs
  have hr : ∀ (c : Dev Cert.KernelIdeal.nD) (i : Cert.Pre_rstd_is_finite.S2x1024.Idx), _ := fun c i =>
    Cert.Pre_rstd_is_finite.Hand.rows _ _ _ _ _ _ _ (hpre c) i
  have h0 : ∀ c b s, 0 ≤ (Cert.KernelIdeal.Hand.args m c).r b s := fun c b s => (hr c (ix2 b s)).1
  have h1 : ∀ c b s, (Cert.KernelIdeal.Hand.args m c).r b s ≠ ⊤ := fun c b s => (hr c (ix2 b s)).2
  have ha : ∀ c : Dev Cert.KernelIdeal.nD, Cert.ReferenceIdeal.Hand.args m' c = Cert.KernelIdeal.Hand.args m c := fun c => by
    obtain ⟨e0, e1, e2, e3, e4, e5, e6⟩ := hargs c
    unfold Cert.ReferenceIdeal.Hand.args Cert.KernelIdeal.Hand.args
    rw [e0, e1, e2, e3, e4, e5, e6]
  refine ⟨fun c => (Cert.KernelIdeal.Hand.args m c).dxA, fun c => (Cert.KernelIdeal.Hand.args m c).totalA,
    fun c => (Cert.KernelIdeal.Hand.args m c).partA, fun c => (Cert.KernelIdeal.Hand.args m c).rcodeA,
    fun c => (Cert.KernelIdeal.Hand.args m c).rscaleA, fun c => (Cert.KernelIdeal.Hand.args m c).ccodeA,
    fun c => (Cert.KernelIdeal.Hand.args m c).cscaleA, Cert.KernelIdeal.Hand.results m g h0 h1, ?_⟩
  refine (θ_run _ _ _).mono (fun r h c => ?_) (Cert.ReferenceIdeal.Hand.results m' g')
  have hc := h c
  rw [ha c] at hc
  exact hc

theorem claim : Cert.Claim := ⟨Cert.Kernel.Gen.facts, Cert.KernelIdeal.Gen.facts, Cert.ReferenceIdeal.Gen.facts, Cert.Pre_rstd_is_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.named_const.statement Cert.KernelIdeal.κ "inv_d" .f32 0x39124925#32 ((1 / 7168 : ℝ) : EReal) rfl,
  equal_results⟩

end Cert.Proof

end
